-- ==== Defs.lean ====
def Pre_Kernel (m : (ℓ : Loc Cert.Kernel.nD Cert.Kernel.τ Cert.Kernel.sig) → Buf (Elt Bits) ℓ) : Prop :=
  True

def Pre_Words (m : (ℓ : Loc Cert.Words.nD Cert.Words.τ Cert.Words.sig) → Buf (Elt Bits) ℓ) : Prop :=
  True

def Pre_WordsIdeal (m : (ℓ : Loc Cert.WordsIdeal.nD Cert.WordsIdeal.τ Cert.WordsIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_Words [hWords : Cert.Words.Facts] : Prop :=
  ∀ (m : (ℓ : Loc Cert.Words.nD Cert.Words.τ Cert.Words.sig) → Buf (Elt Bits) ℓ) (g : Dev Cert.Words.nD → PrngReg), Pre_Words m →
    θ_run (Cert.Words.defs (F := Bits)) (onTc (τ := Cert.Words.τ) (Cert.Words.main (F := Bits))) ⟨m, fun _ => 0, g⟩ (fun r => (∀ c : Dev Cert.Words.nD,
      r.2.mem ((c.tc : Thread Cert.Words.nD Cert.Words.τ).loc Cert.Words.main_arg0) = m ((c.tc : Thread Cert.Words.nD Cert.Words.τ).loc Cert.Words.main_arg0)
      ∧ r.2.mem ((c.tc : Thread Cert.Words.nD Cert.Words.τ).loc Cert.Words.main_arg1) = m ((c.tc : Thread Cert.Words.nD Cert.Words.τ).loc Cert.Words.main_arg1)
      ∧ r.2.mem ((c.tc : Thread Cert.Words.nD Cert.Words.τ).loc Cert.Words.main_arg2) = m ((c.tc : Thread Cert.Words.nD Cert.Words.τ).loc Cert.Words.main_arg2)
      ∧ r.2.mem ((c.tc : Thread Cert.Words.nD Cert.Words.τ).loc Cert.Words.main_arg3) = m ((c.tc : Thread Cert.Words.nD Cert.Words.τ).loc Cert.Words.main_arg3))
      ∧ r.2.sem = fun _ => 0)

def quiescent_WordsIdeal [hWordsIdeal : Cert.WordsIdeal.Facts] : Prop :=
  ∀ (m : (ℓ : Loc Cert.WordsIdeal.nD Cert.WordsIdeal.τ Cert.WordsIdeal.sig) → Buf (Elt Ideal) ℓ) (g : Dev Cert.WordsIdeal.nD → PrngReg), Pre_WordsIdeal m →
    θ_run (Cert.WordsIdeal.defs (F := Ideal)) (onTc (τ := Cert.WordsIdeal.τ) (Cert.WordsIdeal.main (F := Ideal))) ⟨m, fun _ => 0, g⟩ (fun r => (∀ c : Dev Cert.WordsIdeal.nD,
      r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
      ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
      ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
      ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def bitexact_Kernel_Words [hKernel : Cert.Kernel.Facts] [hWords : Cert.Words.Facts] : Prop :=
  ∀ (m : (ℓ : Loc Cert.Kernel.nD Cert.Kernel.τ Cert.Kernel.sig) → Buf (Elt Bits) ℓ) (g : Dev Cert.Kernel.nD → PrngReg)
    (m' : (ℓ : Loc Cert.Words.nD Cert.Words.τ Cert.Words.sig) → Buf (Elt Bits) ℓ) (g' : Dev Cert.Words.nD → PrngReg), Pre_Kernel m →
    (∀ c : Dev Cert.Kernel.nD,
      m' ((c.tc : Thread Cert.Words.nD Cert.Words.τ).loc Cert.Words.main_arg0) = m ((c.tc : Thread Cert.Kernel.nD Cert.Kernel.τ).loc Cert.Kernel.main_arg0)
      ∧ m' ((c.tc : Thread Cert.Words.nD Cert.Words.τ).loc Cert.Words.main_arg1) = m ((c.tc : Thread Cert.Kernel.nD Cert.Kernel.τ).loc Cert.Kernel.main_arg1)
      ∧ m' ((c.tc : Thread Cert.Words.nD Cert.Words.τ).loc Cert.Words.main_arg2) = m ((c.tc : Thread Cert.Kernel.nD Cert.Kernel.τ).loc Cert.Kernel.main_arg2)
      ∧ m' ((c.tc : Thread Cert.Words.nD Cert.Words.τ).loc Cert.Words.main_arg3) = m ((c.tc : Thread Cert.Kernel.nD Cert.Kernel.τ).loc Cert.Kernel.main_arg3)) →
    ∃ (v0 : (c : Dev Cert.Kernel.nD) → Buf (Elt Bits) ((c.tc : Thread Cert.Kernel.nD Cert.Kernel.τ).loc Cert.Kernel.main_v0)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v0) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3))
      ∧ θ_run (Cert.Words.defs (F := Bits)) (onTc (τ := Cert.Words.τ) (Cert.Words.main (F := Bits))) ⟨m', fun _ => 0, g'⟩ (fun r => ∀ c : Dev Cert.Words.nD,
          r.2.mem ((c.tc : Thread Cert.Words.nD Cert.Words.τ).loc Cert.Words.main_v13) = v0 c
          ∧ r.2.mem ((c.tc : Thread Cert.Words.nD Cert.Words.τ).loc Cert.Words.main_arg0) = m' ((c.tc : Thread Cert.Words.nD Cert.Words.τ).loc Cert.Words.main_arg0)
          ∧ r.2.mem ((c.tc : Thread Cert.Words.nD Cert.Words.τ).loc Cert.Words.main_arg1) = m' ((c.tc : Thread Cert.Words.nD Cert.Words.τ).loc Cert.Words.main_arg1)
          ∧ r.2.mem ((c.tc : Thread Cert.Words.nD Cert.Words.τ).loc Cert.Words.main_arg2) = m' ((c.tc : Thread Cert.Words.nD Cert.Words.τ).loc Cert.Words.main_arg2)
          ∧ r.2.mem ((c.tc : Thread Cert.Words.nD Cert.Words.τ).loc Cert.Words.main_arg3) = m' ((c.tc : Thread Cert.Words.nD Cert.Words.τ).loc Cert.Words.main_arg3))

def preserves_Words_WordsIdeal : Prop :=
  True

def algebraic_WordsIdeal_ReferenceIdeal [hWordsIdeal : Cert.WordsIdeal.Facts] [hReferenceIdeal : Cert.ReferenceIdeal.Facts] : Prop :=
  ∀ (m : (ℓ : Loc Cert.WordsIdeal.nD Cert.WordsIdeal.τ Cert.WordsIdeal.sig) → Buf (Elt Ideal) ℓ) (g : Dev Cert.WordsIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_WordsIdeal m →
    (∀ c : Dev Cert.WordsIdeal.nD,
      m' ((c.tc : Thread Cert.ReferenceIdeal.nD Cert.ReferenceIdeal.τ).loc Cert.ReferenceIdeal.main_arg0) = m ((c.tc : Thread Cert.WordsIdeal.nD Cert.WordsIdeal.τ).loc Cert.WordsIdeal.main_arg0)
      ∧ m' ((c.tc : Thread Cert.ReferenceIdeal.nD Cert.ReferenceIdeal.τ).loc Cert.ReferenceIdeal.main_arg1) = m ((c.tc : Thread Cert.WordsIdeal.nD Cert.WordsIdeal.τ).loc Cert.WordsIdeal.main_arg1)
      ∧ m' ((c.tc : Thread Cert.ReferenceIdeal.nD Cert.ReferenceIdeal.τ).loc Cert.ReferenceIdeal.main_arg2) = m ((c.tc : Thread Cert.WordsIdeal.nD Cert.WordsIdeal.τ).loc Cert.WordsIdeal.main_arg2)
      ∧ m' ((c.tc : Thread Cert.ReferenceIdeal.nD Cert.ReferenceIdeal.τ).loc Cert.ReferenceIdeal.main_arg3) = m ((c.tc : Thread Cert.WordsIdeal.nD Cert.WordsIdeal.τ).loc Cert.WordsIdeal.main_arg3)) →
    ∃ (v0 : (c : Dev Cert.WordsIdeal.nD) → Buf (Elt Ideal) ((c.tc : Thread Cert.WordsIdeal.nD Cert.WordsIdeal.τ).loc Cert.WordsIdeal.main_v13)),
      θ_run (Cert.WordsIdeal.defs (F := Ideal)) (onTc (τ := Cert.WordsIdeal.τ) (Cert.WordsIdeal.main (F := Ideal))) ⟨m, fun _ => 0, g⟩ (fun r => ∀ c : Dev Cert.WordsIdeal.nD,
          r.2.mem ((c.tc : Thread Cert.WordsIdeal.nD Cert.WordsIdeal.τ).loc Cert.WordsIdeal.main_v13) = v0 c
          ∧ r.2.mem ((c.tc : Thread Cert.WordsIdeal.nD Cert.WordsIdeal.τ).loc Cert.WordsIdeal.main_arg0) = m ((c.tc : Thread Cert.WordsIdeal.nD Cert.WordsIdeal.τ).loc Cert.WordsIdeal.main_arg0)
          ∧ r.2.mem ((c.tc : Thread Cert.WordsIdeal.nD Cert.WordsIdeal.τ).loc Cert.WordsIdeal.main_arg1) = m ((c.tc : Thread Cert.WordsIdeal.nD Cert.WordsIdeal.τ).loc Cert.WordsIdeal.main_arg1)
          ∧ r.2.mem ((c.tc : Thread Cert.WordsIdeal.nD Cert.WordsIdeal.τ).loc Cert.WordsIdeal.main_arg2) = m ((c.tc : Thread Cert.WordsIdeal.nD Cert.WordsIdeal.τ).loc Cert.WordsIdeal.main_arg2)
          ∧ r.2.mem ((c.tc : Thread Cert.WordsIdeal.nD Cert.WordsIdeal.τ).loc Cert.WordsIdeal.main_arg3) = m ((c.tc : Thread Cert.WordsIdeal.nD Cert.WordsIdeal.τ).loc Cert.WordsIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v12) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hWords : Cert.Words.Facts) (hWordsIdeal : Cert.WordsIdeal.Facts) (hReferenceIdeal : Cert.ReferenceIdeal.Facts),
    quiescent_Kernel (hKernel := hKernel)
    ∧ quiescent_Words (hWords := hWords)
    ∧ quiescent_WordsIdeal (hWordsIdeal := hWordsIdeal)
    ∧ quiescent_ReferenceIdeal (hReferenceIdeal := hReferenceIdeal)
    ∧ bitexact_Kernel_Words (hKernel := hKernel) (hWords := hWords)
    ∧ preserves_Words_WordsIdeal
    ∧ algebraic_WordsIdeal_ReferenceIdeal (hWordsIdeal := hWordsIdeal) (hReferenceIdeal := hReferenceIdeal)
-- ==== Kernel.lean ====
abbrev S1024 : Shape := ⟨1, ![1024]⟩
abbrev S65536x1024 : Shape := ⟨2, ![65536, 1024]⟩
abbrev S_ : Shape := ⟨0, ![]⟩
abbrev S1x1024 : Shape := ⟨2, ![1, 1024]⟩
abbrev S1 : Shape := ⟨1, ![1]⟩
abbrev S32x2048 : Shape := ⟨2, ![32, 2048]⟩
abbrev S65536 : Shape := ⟨1, ![65536]⟩
abbrev S2048x1024 : Shape := ⟨2, ![2048, 1024]⟩
abbrev S1x2048 : Shape := ⟨2, ![1, 2048]⟩
abbrev S1x32x2048 : Shape := ⟨3, ![1, 32, 2048]⟩
abbrev S1x1x1 : Shape := ⟨3, ![1, 1, 1]⟩

abbrev nBuf : Space → Nat
  | .hbm => 8
  | .vmem => 6
  | .smem => 1
  | _ => 0

abbrev bufTy : (tb : Table) → Fin (tcTables nBuf tb) → BufTy
  | .hbm, ⟨0, _⟩ => ⟨S1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S1x1024, .f32⟩
  | .hbm, ⟨5, _⟩ => ⟨S1, .f32⟩
  | .hbm, ⟨6, _⟩ => ⟨S32x2048, .f32⟩
  | .hbm, ⟨7, _⟩ => ⟨S65536, .f32⟩
  | .local _ .vmem, ⟨0, _⟩ => ⟨S1x1024, .f32⟩
  | .local _ .vmem, ⟨1, _⟩ => ⟨S2048x1024, .f32⟩
  | .local _ .vmem, ⟨2, _⟩ => ⟨S2048x1024, .f32⟩
  | .local _ .vmem, ⟨3, _⟩ => ⟨S2048x1024, .f32⟩
  | .local _ .vmem, ⟨4, _⟩ => ⟨S2048x1024, .f32⟩
  | .local _ .vmem, ⟨5, _⟩ => ⟨S32x2048, .f32⟩
  | .local _ .smem, ⟨0, _⟩ => ⟨S1, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg4_0 : Ref sig .tc := ⟨.vmem, 5, rfl⟩
abbrev cc0_stg3_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6

abbrev nD : Nat := 1
abbrev τ : Topo := Topo.v7x

variable {F : FTy → Type} [BitOps F]

abbrev grid0 : Pipeline.Grid := ⟨1, ![32], ![false]⟩

def k0_off1 (i : grid0.Coords) : Fin 2 → Nat :=
  let arg0 : BitVec 32 := BitVec.ofNat 32 (i 0).val
  let v6 : Index := Scalar.indexCast arg0
  let c0_5 : Index := 0#32
  ![v6.toNat, 0]
def k0_cond1 (i : grid0.Coords) : BitVec 1 :=
  let arg0 : BitVec 32 := BitVec.ofNat 32 (i 0).val
  let c31_i32 : BitVec 32 := 31#32
  let v8 : BitVec 1 := Scalar.cmpi .eq arg0 c31_i32
  let v9 : BitVec 32 := Scalar.extui v8
  let c0_i32 : BitVec 32 := 0#32
  let v10 : BitVec 1 := Scalar.cmpi .ne v9 c0_i32
  v10

@[reducible] def k0_t1_loop : Scf.Loop 32 :=
  let c0_i32_11 : BitVec 32 := 0#32
  let c16_i32 : BitVec 32 := 16#32
  let v20 : BitVec 32 := Scalar.addi c0_i32_11 c16_i32
  let c1_i32 : BitVec 32 := 1#32
  ⟨c0_i32_11, v20, c1_i32⟩
@[reducible] def k0_t2_loop : Scf.Loop 32 :=
  let c0_i32_24 : BitVec 32 := 0#32
  let c17_i32 : BitVec 32 := 17#32
  let v60 : BitVec 32 := Scalar.addi c0_i32_24 c17_i32
  let c1_i32_25 : BitVec 32 := 1#32
  ⟨c0_i32_24, v60, c1_i32_25⟩
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== Words.lean ====
abbrev S1024 : Shape := ⟨1, ![1024]⟩
abbrev S65536x1024 : Shape := ⟨2, ![65536, 1024]⟩
abbrev S_ : Shape := ⟨0, ![]⟩
abbrev S1x1024 : Shape := ⟨2, ![1, 1024]⟩
abbrev S1x65536 : Shape := ⟨2, ![1, 65536]⟩
abbrev S2048x1024 : Shape := ⟨2, ![2048, 1024]⟩
abbrev S1x2048 : Shape := ⟨2, ![1, 2048]⟩
abbrev S65536 : Shape := ⟨1, ![65536]⟩
abbrev S1310 : Shape := ⟨1, ![1310]⟩
abbrev S1310x1 : Shape := ⟨2, ![1310, 1]⟩

abbrev nBuf : Space → Nat
  | .hbm => 25
  | .vmem => 4
  | .smem => 0
  | _ => 0

abbrev bufTy : (tb : Table) → Fin (tcTables nBuf tb) → BufTy
  | .hbm, ⟨0, _⟩ => ⟨S1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S1x1024, .f32⟩
  | .hbm, ⟨5, _⟩ => ⟨S1x65536, .f32⟩
  | .hbm, ⟨6, _⟩ => ⟨S65536, .f32⟩
  | .hbm, ⟨7, _⟩ => ⟨S1310, .f32⟩
  | .hbm, ⟨8, _⟩ => ⟨S1310, .i32⟩
  | .hbm, ⟨9, _⟩ => ⟨S_, .f32⟩
  | .hbm, ⟨10, _⟩ => ⟨S65536, .f32⟩
  | .hbm, ⟨11, _⟩ => ⟨S1310, .f32⟩
  | .hbm, ⟨12, _⟩ => ⟨S1310, .f32⟩
  | .hbm, ⟨13, _⟩ => ⟨S_, .f32⟩
  | .hbm, ⟨14, _⟩ => ⟨S1310, .f32⟩
  | .hbm, ⟨15, _⟩ => ⟨S1310, .f32⟩
  | .hbm, ⟨16, _⟩ => ⟨S_, .i32⟩
  | .hbm, ⟨17, _⟩ => ⟨S1310, .i32⟩
  | .hbm, ⟨18, _⟩ => ⟨S1310, .i1⟩
  | .hbm, ⟨19, _⟩ => ⟨S_, .i32⟩
  | .hbm, ⟨20, _⟩ => ⟨S1310, .i32⟩
  | .hbm, ⟨21, _⟩ => ⟨S1310, .i32⟩
  | .hbm, ⟨22, _⟩ => ⟨S1310, .i32⟩
  | .hbm, ⟨23, _⟩ => ⟨S1310x1, .i32⟩
  | .hbm, ⟨24, _⟩ => ⟨S65536, .f32⟩
  | .local _ .vmem, ⟨0, _⟩ => ⟨S1x1024, .f32⟩
  | .local _ .vmem, ⟨1, _⟩ => ⟨S65536x1024, .f32⟩
  | .local _ .vmem, ⟨2, _⟩ => ⟨S65536x1024, .f32⟩
  | .local _ .vmem, ⟨3, _⟩ => ⟨S1x65536, .f32⟩
  | _, _ => ⟨S1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_values : Ref sig .tc := ⟨.hbm, 7, rfl⟩
abbrev main_indices : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_c_0 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S65536x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S65536x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x65536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S1024 : Shape := ⟨1, ![1024]⟩
abbrev S65536x1024 : Shape := ⟨2, ![65536, 1024]⟩
abbrev S_ : Shape := ⟨0, ![]⟩
abbrev S65536 : Shape := ⟨1, ![65536]⟩
abbrev S1310 : Shape := ⟨1, ![1310]⟩
abbrev S1310x1 : Shape := ⟨2, ![1310, 1]⟩

abbrev nBuf : Space → Nat
  | .hbm => 24
  | .vmem => 0
  | .smem => 0
  | _ => 0

abbrev bufTy : (tb : Table) → Fin (tcTables nBuf tb) → BufTy
  | .hbm, ⟨0, _⟩ => ⟨S1024, .f32⟩
  | .hbm, ⟨1, _⟩ => ⟨S65536x1024, .f32⟩
  | .hbm, ⟨2, _⟩ => ⟨S65536x1024, .f32⟩
  | .hbm, ⟨3, _⟩ => ⟨S_, .f32⟩
  | .hbm, ⟨4, _⟩ => ⟨S65536x1024, .f32⟩
  | .hbm, ⟨5, _⟩ => ⟨S65536, .f32⟩
  | .hbm, ⟨6, _⟩ => ⟨S1310, .f32⟩
  | .hbm, ⟨7, _⟩ => ⟨S1310, .i32⟩
  | .hbm, ⟨8, _⟩ => ⟨S_, .f32⟩
  | .hbm, ⟨9, _⟩ => ⟨S65536, .f32⟩
  | .hbm, ⟨10, _⟩ => ⟨S1310, .f32⟩
  | .hbm, ⟨11, _⟩ => ⟨S1310, .f32⟩
  | .hbm, ⟨12, _⟩ => ⟨S_, .f32⟩
  | .hbm, ⟨13, _⟩ => ⟨S1310, .f32⟩
  | .hbm, ⟨14, _⟩ => ⟨S1310, .f32⟩
  | .hbm, ⟨15, _⟩ => ⟨S_, .i32⟩
  | .hbm, ⟨16, _⟩ => ⟨S1310, .i32⟩
  | .hbm, ⟨17, _⟩ => ⟨S1310, .i1⟩
  | .hbm, ⟨18, _⟩ => ⟨S_, .i32⟩
  | .hbm, ⟨19, _⟩ => ⟨S1310, .i32⟩
  | .hbm, ⟨20, _⟩ => ⟨S1310, .i32⟩
  | .hbm, ⟨21, _⟩ => ⟨S1310, .i32⟩
  | .hbm, ⟨22, _⟩ => ⟨S1310x1, .i32⟩
  | .hbm, ⟨23, _⟩ => ⟨S65536, .f32⟩
  | _, _ => ⟨S1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_values : Ref sig .tc := ⟨.hbm, 6, rfl⟩
abbrev main_indices : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_cst : Ref sig .tc := ⟨.hbm, 12, rfl⟩
abbrev main_call0_v0 : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_v7 : Ref sig .tc := ⟨.hbm, 17, rfl⟩
abbrev main_c_0 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩

abbrev nD : Nat := 1
abbrev τ : Topo := Topo.v7x

variable {F : FTy → Type} [FloatOps F]
-- ==== Proof.Part.lean ====
/-
  The selection stage of the kernel as a pure function. At the last grid point the kernel loads the whole array of
  products, searches the threshold key bit by bit, counts, and (when the ties have to be cut) searches the index of
  the last tie taken. The two searches are counted loops that issue nothing, so each is the fold of its step, and
  the stage is its two loads followed by a value.
-/
module

public import proofs.«01_k».proof.Proof.Gen.Kernel.Skeleton
public import Idealize.ShloMosaic.Lib.Exec
public import Idealize.ShloMosaic.Lib.Tactic

@[expose] public section

noncomputable section

namespace Cert.Kernel.Part

open Cert.Kernel Cert.Kernel.Gen
open Idealize.ShloMosaic Idealize.ShloMosaic.TcCoe
open Idealize.SL Idealize.SL.Sem

variable {F : FTy → Type} [BitOps F]

/-- One trip of the search for the threshold key: the two bits of trip `k` are settled. -/
def step1 (v11 : Vec F S32x2048 .f32) (k : Fin k0_t1_loop.trips) (a : BitVec 32) : BitVec 32 :=
  let hi : BitVec 32 := Scalar.shli 1#32 (Scalar.subi 31#32 (Scalar.muli 2#32 (Scf.iv 0#32 1#32 k)))
  let lo : BitVec 32 := Scalar.shli 1#32 (Scalar.subi 30#32 (Scalar.muli 2#32 (Scf.iv 0#32 1#32 k)))
  Scalar.select (Scalar.cmpi .sge (extractAt ![0, 0, 0] (k0_pay5 v11 k a) inpos_S1x1x1_p0_0_0) 1310#32)
    (Scalar.select (Scalar.cmpi .sge (extractAt ![0, 0, 0] (k0_pay7 v11 k a) inpos_S1x1x1_p0_0_0) 1310#32)
      (Scalar.ori (Scalar.ori a hi) lo) (Scalar.ori a hi))
    (Scalar.select (Scalar.cmpi .sge (extractAt ![0, 0, 0] (k0_pay6 v11 k a) inpos_S1x1x1_p0_0_0) 1310#32)
      (Scalar.ori a lo) a)

/-- The threshold key (its sign bit flipped) the first search ends with. -/
def T1 (v11 : Vec F S32x2048 .f32) : BitVec 32 := Scf.fold (step1 v11) 0#32

/-- How many ties are to be taken: the 1310 wanted less those above the threshold. -/
def wanted (v11 : Vec F S32x2048 .f32) : BitVec 32 :=
  Scalar.subi 1310#32 (extractAt ![0, 0, 0] (k0_pay10 v11 (T1 v11)) inpos_S1x1x1_p0_0_0)

/-- How many ties there are. -/
def ties (v11 : Vec F S32x2048 .f32) : BitVec 32 :=
  extractAt ![0, 0, 0] (k0_pay11 v11 (T1 v11)) inpos_S1x1x1_p0_0_0

/-- One trip of the search for the index of the last tie taken. -/
def step2 (v11 : Vec F S32x2048 .f32) (v21 v37 : BitVec 32) (k : Fin k0_t2_loop.trips) (a : BitVec 32) : BitVec 32 :=
  Scalar.select (Scalar.cmpi .slt (extractAt ![0, 0, 0] (k0_pay13 v11 v21 k a) inpos_S1x1x1_p0_0_0) v37)
    (Scalar.ori a (Scalar.shli 1#32 (Scalar.subi 16#32 (Scf.iv 0#32 1#32 k)))) a

/-- The index of the last tie taken, or 65536 when all of them are. -/
def lastTie (v11 : Vec F S32x2048 .f32) : BitVec 32 :=
  if Scalar.cmpi .ne (Scalar.extui (Scalar.cmpi .eq (ties v11) (wanted v11)) : BitVec 32) 0#32 = 1#1 then 65536#32
  else Scf.fold (step2 v11 (T1 v11) (wanted v11)) 0#32

/-- Which elements are selected. -/
def mask (v11 : Vec F S32x2048 .f32) : IVec S32x2048 1 := k0_pay14 v11 (T1 v11) (lastTie v11)

/-- The kernel's result from the array of products and the threshold. -/
def result (v11 : Vec F S32x2048 .f32) (θ : Elt F .f32) : FVec F S32x2048 .f32 := k0_pay2 (k0_pay3 v11) (mask v11) θ

set_option maxRecDepth 65536 in
/-- The selection stage is its two loads and a value. -/
theorem part1_eq (i : grid0.Coords) (arg1 : Memref sig .tc .vmem S1x1024 .f32) (harg1 : arg1.IsWhole) (arg2 : Memref sig .tc .vmem S2048x1024 .f32) (harg2 : arg2.IsWhole) (arg3 : Memref sig .tc .vmem S2048x1024 .f32) (harg3 : arg3.IsWhole) (arg4 : Memref sig .tc .smem S1 .f32) (harg4 : arg4.IsWhole) (arg5 : Memref sig .tc .vmem S32x2048 .f32) (harg5 : arg5.IsWhole) (h1 : k0_cond1 i = 1#1) :
    k0_part1 (F := F) i arg1 harg1 arg2 harg2 arg3 harg3 arg4 harg4 arg5 harg5 h1
      = (do
          let v11 : Vec F S32x2048 .f32 ← Prog.lift (.load arg5 (Rect.unit (s := S32x2048) ![0, 0] S32x2048.size inb_S32x2048_S32x2048_0_0).toLoadRect (View.loadsAt_vmem h_S32x2048))
          let v52 : Elt F .f32 ← smemLoad arg4 (Rect.unit (s := S1) ![0] S1.size inb_S1_S1_0) numel1_S1 rfl
          pure ⟨k0_pay3 v11, mask v11, v52⟩) := by
  rw [k0_part1_eq_skeleton]
  unfold k0_part1_skel
  refine congrArg (fun k => Prog.lift _ >>= k) (funext fun v11 => ?_)
  refine (Scf.for_pure_bind _ _ _ (k0_t1_ok i h1) 0#32 _ (step1 v11) (fun k acc => rfl) _).trans ?_
  rw [show Scf.fold (step1 v11) 0#32 = T1 v11 from rfl]
  dsimp only
  unfold mask lastTie ties wanted
  split
  · rw [pure_bind]
  · exact Scf.for_pure_bind _ _ _ (k0_t2_ok i h1) 0#32 _ (step2 v11 (T1 v11) _) (fun k acc => rfl) _

end Cert.Kernel.Part

end
-- ==== Proof.Body.lean ====
/-
  The kernel's body at a grid point, as a triple: from the staging buffers at known contents it stores the point's row of
  products into the output's buffer and, at the last point, replaces the buffer by the selected array.
-/
module

public import proofs.«01_k».proof.Proof.Part
public import proofs.«01_k».proof.Proof.Gen.Kernel.Frame
public import proofs.«01_k».proof.Proof.Gen.Kernel.Points
public import Idealize.ShloMosaic.Lib.VecWindow

@[expose] public section

noncomputable section

namespace Cert.Kernel.Body

open Cert.Kernel Cert.Kernel.Gen Cert.Kernel.Part
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [BitOps F]

local notation "𝕄" => MT nD τ sig Unit (Elt F) ℕ (UR sig nD τ) ℕ

/-- The rows a point stores: one row of the output's buffer. -/
abbrev rowRect (i : grid0.Coords) : Rect S32x2048 := Rect.unit (s := S32x2048) (k0_off1 i) S1x2048.size (k0_off1_inb i)

/-- The output's buffer after the point's row has been stored into contents `y`. -/
def stored (i : grid0.Coords) (x1 : Vec F S1x1024 .f32) (x2 x3 : Vec F S2048x1024 .f32) (y : Vec F S32x2048 .f32) : Vec F S32x2048 .f32 :=
  (rowRect i).overlay y (k0_pay1 x2 x3 x1)

/-- The one index of the threshold's buffer. -/
def only : S1.Idx := fun a => ⟨0, by revert a; decide⟩

/-- A buffer read after one store: the earlier contents overlaid with the stored payload. -/
theorem read_one {κ : Kind} {sp : Space} {s : Shape} {e : EltTy} (v : View sig κ sp s e) (f : v.ty.Contents (Elt F)) (r : Rect s)
    (p : r.shape.Idx → Elt F e) : v.read (Elt F) (v.writes (Elt F) f [⟨r, p⟩]) = r.overlay (v.read (Elt F) f) p := by
  funext y
  by_cases h : y ∈ r.set
  · obtain ⟨x, -, rfl⟩ := Finset.mem_map.mp (by rw [Rect.map_emb_univ]; exact h : y ∈ Finset.univ.map r.emb)
    rw [View.read_writes_cons_emb, Rect.overlay_emb]
  · rw [View.read_writes_cons_miss _ _ _ _ _ h, Rect.overlay_of_not_mem _ _ _ h]
    rfl

set_option maxHeartbeats 1000000 in
/-- A point that is not the last. -/
theorem triple_row (c : Dev nD) (E : Set ℕ) (i : grid0.Coords) (hc : ¬ k0_cond1 i = 1#1) (arg1 : Memref sig .tc .vmem S1x1024 .f32) (harg1 : arg1.IsWhole) (arg2 : Memref sig .tc .vmem S2048x1024 .f32) (harg2 : arg2.IsWhole) (arg3 : Memref sig .tc .vmem S2048x1024 .f32) (harg3 : arg3.IsWhole) (arg4 : Memref sig .tc .smem S1 .f32) (harg4 : arg4.IsWhole) (arg5 : Memref sig .tc .vmem S32x2048 .f32) (harg5 : arg5.IsWhole)
    (x1 : Vec F S1x1024 .f32) (x2 x3 : Vec F S2048x1024 .f32) (x4 : Vec F S1 .f32) (y : Vec F S32x2048 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare y
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (stored i x1 x2 x3 y)) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  simp only [dif_neg hc]
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold stored
  rw [← View.readAt_full arg2.view f2 inb_S2048x1024_S2048x1024_0_0, ← View.readAt_full arg3.view f3 inb_S2048x1024_S2048x1024_0_0,
    ← View.readAt_full arg1.view f1 inb_S1x1024_S1x1024_0_0]
  exact read_one arg5.view f5 (rowRect i) _

set_option maxHeartbeats 1000000 in
/-- The last point. -/
theorem triple_last (c : Dev nD) (E : Set ℕ) (i : grid0.Coords) (hc : k0_cond1 i = 1#1) (arg1 : Memref sig .tc .vmem S1x1024 .f32) (harg1 : arg1.IsWhole) (arg2 : Memref sig .tc .vmem S2048x1024 .f32) (harg2 : arg2.IsWhole) (arg3 : Memref sig .tc .vmem S2048x1024 .f32) (harg3 : arg3.IsWhole) (arg4 : Memref sig .tc .smem S1 .f32) (harg4 : arg4.IsWhole) (arg5 : Memref sig .tc .vmem S32x2048 .f32) (harg5 : arg5.IsWhole)
    (x1 : Vec F S1x1024 .f32) (x2 x3 : Vec F S2048x1024 .f32) (x4 : Vec F S1 .f32) (y : Vec F S32x2048 .f32) (K : PUnit → sProp 𝕄) :
    iprop(owns (c : Thread nD τ) arg1 fullShare x1 ∗ owns (c : Thread nD τ) arg2 fullShare x2 ∗ owns (c : Thread nD τ) arg3 fullShare x3
        ∗ owns (c : Thread nD τ) arg4 fullShare x4 ∗ owns (c : Thread nD τ) arg5 fullShare y
        ∗ (iprop(owns (c : Thread nD τ) arg1 fullShare x1 ∗ owns (c : Thread nD τ) arg2 fullShare x2 ∗ owns (c : Thread nD τ) arg3 fullShare x3
            ∗ owns (c : Thread nD τ) arg4 fullShare x4 ∗ owns (c : Thread nD τ) arg5 fullShare (result (stored i x1 x2 x3 y) (x4 only))) -∗ K ⟨⟩))
      ⊢ wp frame (wpE (defs₀ (F := F)) Variants.none c none) E (cc0__body i arg1 harg1 arg2 harg2 arg3 harg3 arg4 harg4 arg5 harg5) K := by
  simp only [cc0__body_eq_skeleton]; unfold cc0__body_skel
  simp only [dif_pos hc, part1_eq]
  unfold owns
  iintro ⟨⟨%f1, %hf1, H1⟩, ⟨%f2, %hf2, H2⟩, ⟨%f3, %hf3, H3⟩, ⟨%f4, %hf4, H4⟩, ⟨%f5, %hf5, H5⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  unfold triple_last.sl.v11 triple_last.sl.r triple_last.sl.H5_1
  refine (View.read_writes_full arg5.view f5 inb_S32x2048_S32x2048_0_0 _ _).trans ?_
  unfold stored result
  rw [← View.readAt_full arg2.view f2 inb_S2048x1024_S2048x1024_0_0, ← View.readAt_full arg3.view f3 inb_S2048x1024_S2048x1024_0_0,
    ← View.readAt_full arg1.view f1 inb_S1x1024_S1x1024_0_0, ← View.readAt_full arg4.view f4 inb_S1_S1_0]
  dsimp only
  rw [← read_one arg5.view f5 (rowRect i), ← View.readAt_full arg5.view _ inb_S32x2048_S32x2048_0_0]
  have e : ∀ h : 0 < S1.numel, Shape.Idx.first h = only := fun h => by
    funext a
    have h1 : ∀ a : Fin S1.rank, S1.size a = 1 := by decide
    have hl : (Shape.Idx.first h a).val < 1 := lt_of_lt_of_eq (Shape.Idx.first h a).isLt (h1 a)
    have h2 : (only a).val = 0 := rfl
    exact Fin.ext (by omega)
  rw [← e Nat.one_pos]

end Cert.Kernel.Body

end
-- ==== Proof.Tail.lean ====
/-
  The launch of a pipeline whose proof data relate what the body leaves in a window to what it found there, for a
  program that goes on after the region with host lines. The library's launch of such a program says nothing of the
  buffers those lines write. Here they are said to hold what the lines compute from SOME contents the arrays may
  have after every write-back, which settles them as soon as the relation leaves one possible content only.
-/
module

public import Idealize.ShloMosaic.Lib.Pipeline.FrameSuffix

@[expose] public section

noncomputable section

namespace Cert.Kernel.Tail

open Idealize.ShloMosaic Idealize.ShloMosaic.TcCoe Idealize.ShloMosaic.Pipeline Idealize.ShloMosaic.Rounds
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} [∀ e, Nonempty (Val e)]
variable {Λ₀ : Idealize.SL.Sem.Labels} {P : Type} [Fintype P] [DecidableEq P]
variable (cfgs : P → Cfg sig Λ₀) (p : P)

local notation "𝕄" => MT nD τ sig Unit Val ℕ (UR sig nD τ) ℕ

/-- What a run with lines after the region ends with, in terms of contents `A` the arrays may have at the region's
    end: every other unscoped buffer is what the lines leave there, run from those arrays. -/
def Post (rdat : (c : Dev nD) → RDat τ Val Unit ℕ (UR sig nD τ) ℕ (cfgs p) c)
    (V₀ : Dev nD → Valuation τ sig Val) (opss : List (List (HloOp τ sig Val))) (s : MemSt nD τ sig Val) : Prop :=
  ∀ c : Dev nD, (∀ w, (rdat c).ArrAt w (cfgs p).N (s.mem (((cfgs p).spec w).arr.view.loc (c.tc : Thread nD τ))))
    ∧ ∃ A : (w : Fin (cfgs p).W) → Buf Val (((cfgs p).spec w).arr.view.loc (c.tc : Thread nD τ)),
        (∀ w, (rdat c).ArrAt w (cfgs p).N (A w))
          ∧ ∀ b ∈ restRefs sig (cfgs p).spec,
              s.mem ((c.tc : Thread nD τ).loc b)
                = StableHlo.after opss.flatten (withArrays (cfgs p).spec c (V₀ c) A) (Proc.devRef .tc b)

/-- The arrays at contents they may hold, the contents taken out. -/
theorem arraysAt_open {cfg : Cfg sig Λ₀} {c : Dev nD} (rd : RDat τ Val Unit ℕ (UR sig nD τ) ℕ cfg c) (n : Nat) :
    (rd.arraysAt n : sProp 𝕄) ⊢ iprop(∃ A, ⌜∀ w, rd.ArrAt w n (A w)⌝ ∗ rd.arrays A) := by
  unfold RDat.arraysAt RDat.arrays
  iintro H
  ihave H1 := (BI.bigSep_exists_pi Finset.univ (fun w F => iprop(⌜rd.ArrAt w n F⌝
      ∗ (cfg.win w).arr.view.loc (c.tc : Thread nD τ) ↦[(cfg.win w).arr.view.set]{rd.share w} F))) $$ H
  icases H1 with ⟨%A, H1⟩
  ihave H2 := (BI.bigSep_pure_sep Finset.univ (fun w => rd.ArrAt w n (A w))
      (fun w => (cfg.win w).arr.view.loc (c.tc : Thread nD τ) ↦[(cfg.win w).arr.view.set]{rd.share w} A w)) $$ H1
  icases H2 with ⟨%hA, H2⟩
  iexists A
  isplitr
  · ipureintro; exact fun w => hA w (Finset.mem_univ w)
  · iexact H2

/-- And put back. -/
theorem arraysAt_close {cfg : Cfg sig Λ₀} {c : Dev nD} (rd : RDat τ Val Unit ℕ (UR sig nD τ) ℕ cfg c) (n : Nat)
    (A : (w : Fin cfg.W) → Buf Val ((cfg.win w).arr.view.loc (c.tc : Thread nD τ))) (hA : ∀ w, rd.ArrAt w n (A w)) :
    (rd.arrays A : sProp 𝕄) ⊢ rd.arraysAt n := by
  unfold RDat.arraysAt RDat.arrays
  refine BI.bigSep_mono fun w _ => ?_
  show ((cfg.win w).arr.view.loc (c.tc : Thread nD τ) ↦[(cfg.win w).arr.view.set]{rd.share w} A w : sProp 𝕄)
    ⊢ iprop(∃ F, ⌜rd.ArrAt w n F⌝ ∗ (cfg.win w).arr.view.loc (c.tc : Thread nD τ) ↦[(cfg.win w).arr.view.set]{rd.share w} F)
  iintro H
  iexists (A w)
  isplitr
  · ipureintro; exact hA w
  · iexact H

/-- The run: a region of relational proof data and the host lines after it. -/
theorem run_around (kit : LaunchFacts (nD := nD) (τ := τ) cfgs p) (defs₀ : Defs nD τ sig Val Λ₀) (𝒱₀ : Variants)
    (rdat : (c : Dev nD) → RDat τ Val Unit ℕ (UR sig nD τ) ℕ (cfgs p) c)
    (m : (ℓ : Loc nD τ sig) → Buf Val ℓ) (g : Dev nD → PrngReg)
    (main : Dev nD → Prog (TpuEff nD τ sig Val (Pipeline.Sig Λ₀ P fun p => ((cfgs p).toPCfg (Val := Val)).Adm) .tc) PUnit)
    (hbody : ∀ c, (rdat c).BodyObligation defs₀ 𝒱₀ () Set.univ)
    (hshare : ∀ c w, (rdat c).share w = fullShare) (howed : ∀ c t, (rdat c).owed t = 0)
    (V₀ : Dev nD → Valuation τ sig Val) (opss : List (List (HloOp τ sig Val)))
    (hsub : ∀ ops ∈ opss, ∀ op ∈ ops, op.bufs ⊆ tailRefs sig Prefetch.none (cfgs p).spec)
    (hfresh : ∀ ops ∈ opss, ∀ op ∈ ops, op.fresh = ∅)
    (hkeep : ∀ ops ∈ opss, ∀ op ∈ ops, ∀ w, Proc.devRef .tc (arrRef (cfgs p).spec w) ∉ op.writes)
    (hmain : HMainK (Ix := Unit) (Name := ℕ) (U := UR sig nD τ) (Lvl := ℕ) cfgs p defs₀ 𝒱₀ m main
      (fun c b => V₀ c (Proc.devRef .tc b)) (fun _ => chain (opss.map StableHlo.seq)))
    (hA : ∀ c w, (rdat c).A w = V₀ c (Proc.devRef .tc (arrRef (cfgs p).spec w)))
    (hΦ : ∀ c t, (rdat c).Φ t = ΦA (cfgs p).spec c) :
    θ_run (Pipeline.defs (fun q => Cfg.toPCfg (Val := Val) (cfgs q)) defs₀) (onTc main) (s₀ m g)
      (fun r => Post cfgs p rdat V₀ opss r.2 ∧ r.2.sem = fun _ => 0) := by
  classical
  let pcs : P → PCfg sig Λ₀ Val := fun q => (cfgs q).toPCfg
  let a : (q : P) → (pcs q).Adm := fun q => (cfgs q).toPCfg_adm
  have k0 : PLaunchFacts₀ (nD := nD) (τ := τ) pcs p := (LaunchFacts.toP (Val := Val) kit).to₀
  have hq : ∀ c w, ((cfgs p).spec w).isOut = false → (rdat c).q w = shareOf (cfgs p).spec w :=
    fun c w hw => RDat.q_eq_shareOf_of_share_full (rdat c) kit.win.arr_inj (hshare c) w hw
  exact RDat.θ_run_region_pf_tail_quiescent pcs a (RDat.familyOf pcs a p rdat) () (k0.cellOf_inj a) p k0.win
    (OwnSemFacts.none (cfgs p).spec) k0.pre emb₁ defs₀ 𝒱₀ m g main
    (fun _ => chain (opss.map StableHlo.seq)) (fun c => by rw [RDat.familyOf_self]; exact hbody c)
    k0.block_pos k0.arr_whole k0.stage_whole (fun c t => by rw [RDat.familyOf_self]; exact howed c t)
    (G := fun _ => iprop(emp)) (u₀ := initOf (cells (pin pcs a) (k0.cellOf_inj a)) (launchToks (pin pcs a) (k0.cellOf_inj a)))
    (hu₀ := by
      iintro Hu; imodintro
      isplitl [Hu]
      · iapply (show (ownU _ : sProp 𝕄) ⊢ BI.own (emb₁ (initOf (cells (pin pcs a) (k0.cellOf_inj a)) (launchToks (pin pcs a) (k0.cellOf_inj a)))) from .rfl)
        iexact Hu
      · iapply (show (BI.emp : sProp 𝕄) ⊢ bigSep Finset.univ (fun _ : Dev nD => (BI.emp : sProp 𝕄)) from by rw [BI.bigSep_emp_const])
        iempintro)
    (V := fun c b => V₀ c (Proc.devRef .tc b)) (hmain := hmain)
    (hsplit := fun c => by
      rw [RDat.familyOf_self]
      exact (rdat c).arrays_split_shared k0.sharedIn k0.arr_whole (hq c) (fun b => V₀ c (Proc.devRef .tc b)) _ (hA c))
    (hpf := fun _ k => k.elim0)
    (X := fun c => iprop(∃ r, prngReg c r)) (Y := fun c => iprop(∃ r, prngReg c r))
    (Z := fun c => unscopedRestP (Ix := Unit) (Name := ℕ) (U := UR sig nD τ) (Lvl := ℕ) (pcs p).pre (cfgs p).spec c
      (fun b => V₀ c (Proc.devRef .tc b)))
    (Z' := fun c => iprop(∃ A, ⌜∀ w, (rdat c).ArrAt w (cfgs p).N (A w)⌝
      ∗ unscopedRestP (Ix := Unit) (Name := ℕ) (U := UR sig nD τ) (Lvl := ℕ) (pcs p).pre (cfgs p).spec c
          (fun b => StableHlo.after opss.flatten (withArrays (cfgs p).spec c (V₀ c) A) (Proc.devRef .tc b))))
    (hX := fun c => by
      iintro ⟨HU, -, -, Hp, -⟩; imodintro
      isplitl [Hp]
      · iexists _; iexact Hp
      · iexact HU)
    (hin := fun c => by
      rw [RDat.familyOf_self, hΦ]
      unfold ΦA; iintro ⟨Hp, -, Hr⟩
      isplitl [Hr] <;> iassumption)
    (hout := fun c => by
      rw [RDat.familyOf_self, hΦ, ownSems0_none]
      unfold ΦA; iintro ⟨Hr, Hp⟩
      isplitl [Hp]; · iexact Hp
      isplitr; · iempintro
      iexact Hr)
    (htail := fun c Q' => by
      rw [RDat.familyOf_self]
      iintro ⟨Hk, Hb, Ha, HZ⟩
      ihave Ha' := (arraysAt_open (rdat c) (cfgs p).N) $$ Ha
      icases Ha' with ⟨%A, %hA', Ha⟩
      have hB : (rdat c).arrays A = arrBufs (cfgs p).spec c (fun b => withArrays (cfgs p).spec c (V₀ c) A (Proc.devRef .tc b)) :=
        ((rdat c).arrBufs_eq_arrays k0.sharedIn k0.arr_whole (hq c) _ A fun w =>
          (withArrays_arr_shared (cfgs p).spec c (V₀ c) A ((rdat c).ArrAt_sharedIn k0.sharedIn (V₀ c) (hA c) (cfgs p).N A hA') w).symm).symm
      iapply (tail_seqs_bufs_b pcs defs₀ 𝒱₀ (pcs p).pre (cfgs p).spec c (V₀ c) A opss hsub hfresh hkeep Q')
      isplitl [Hk]
      · iintro ⟨Hb2, Ha2, Hu⟩
        iapply Hk
        isplitl [Hb2]; · iexact Hb2
        isplitl [Ha2]
        · iapply (arraysAt_close (rdat c) (cfgs p).N A hA'); iapply (Entails.of_eq hB.symm); iexact Ha2
        · iexists A; isplitr
          · ipureintro; exact hA'
          · iexact Hu
      · isplitl [Hb]; · iexact Hb
        isplitl [Ha]; · iapply (Entails.of_eq hB); iexact Ha
        iexact HZ)
    (QY := fun c s => ∃ A : (w : Fin (cfgs p).W) → Buf Val (((cfgs p).spec w).arr.view.loc (c.tc : Thread nD τ)),
      (∀ w, (rdat c).ArrAt w (cfgs p).N (A w)) ∧ ∀ b ∈ restRefsP sig (pcs p).pre (cfgs p).spec,
        s.mem ((c.tc : Thread nD τ).loc b)
          = StableHlo.after opss.flatten (withArrays (cfgs p).spec c (V₀ c) A) (Proc.devRef .tc b))
    (hY := fun c s' => by
      iintro ⟨-, HZ, HSI⟩
      icases HZ with ⟨%A, %hA', HZ⟩
      unfold unscopedRestP
      ihave HZ' := (pointsTo_read_all (restRefsP sig (pcs p).pre (cfgs p).spec) (fun b => (c.tc : Thread nD τ).loc b)
        (fun b => StableHlo.after opss.flatten (withArrays (cfgs p).spec c (V₀ c) A) (Proc.devRef .tc b)) s') $$ [HZ HSI]
      · isplitl [HZ] <;> iassumption
      icases HZ' with ⟨%hZ, HSI⟩
      imodintro
      isplitr
      · ipureintro; exact ⟨A, hA', fun b hb => hZ b hb⟩
      · iexact HSI)
    (hQ := fun s h hz => ⟨fun c => ⟨fun w => by simpa only [RDat.familyOf_self] using (h c).1 w, by
      obtain ⟨A, hA', hr⟩ := (h c).2.2
      refine ⟨A, hA', fun b hb => hr b ?_⟩
      simpa only [restRefsP, restRefs, pcs, Cfg.toPCfg, Prefetch.none, Finset.univ_eq_empty, Finset.image_empty, Finset.sdiff_empty] using hb⟩, hz⟩)

end Cert.Kernel.Tail

end
-- ==== Proof.Run.lean ====
/-
  The kernel's run. The output's staging buffer is written a row at a time and read whole at the last point, and what it
  holds before the first point is not known; so the proof data relate what a point leaves in it to what the point found.
  By induction on the points the rows stored so far are the products of their blocks; at the last point all are, and
  the buffer is replaced by the selection over them.
-/
module

public import proofs.«01_k».proof.Proof.Body
public import proofs.«01_k».proof.Proof.Tail
public import proofs.«01_k».proof.Proof.Gen.Kernel.Launch
public import Idealize.ShloMosaic.Lib.Pipeline.ArrRel
public import Idealize.ShloMosaic.Lib.Pipeline.ValueKit
public import Idealize.ShloMosaic.Lib.Pointwise.Index
public import Idealize.ShloMosaic.Lib.StableHlo.Run

@[expose] public section

set_option maxRecDepth 16384

noncomputable section

namespace Cert.Kernel.Run

open Cert.Kernel Cert.Kernel.Gen Cert.Kernel.Part Cert.Kernel.Body
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [BitOps F] [∀ e, Nonempty (Elt F e)]

local notation "𝕄" => MT nD τ sig Unit (Elt F) ℕ (UR sig nD τ) ℕ

variable (m : (ℓ : Loc nD τ sig) → Buf (Elt F) ℓ) (ρ : Dev nD → PrngReg)

/-! ## The proof data -/

/-- The output's buffer after point `t` has stored its row into contents `y`. -/
def rowOf (c : Dev nD) (t : Fin cfg0.N) (y : Vec F S32x2048 .f32) : Vec F S32x2048 .f32 :=
  stored (grid0.coords t) (iblk m c 0 t) (iblk m c 1 t) (iblk m c 2 t) y

/-- And after the whole point. -/
def outOf (c : Dev nD) (t : Fin cfg0.N) (y : Vec F S32x2048 .f32) : Vec F S32x2048 .f32 :=
  if k0_cond1 (grid0.coords t) = 1#1 then result (rowOf m c t y) ((iblk m c 3 t : Vec F S1 .f32) only) else rowOf m c t y

/-- What a point leaves in a window's buffer: an input's block where it was, the output's row stored. -/
def afterOf (c : Dev nD) : (w : Fin cfg0.W) → (t : Fin cfg0.N) → (Y X : (cfg0.win w).block.Idx → Elt F (cfg0.win w).elt) → Prop
  | 0, _, Y, X => X = Y
  | 1, _, Y, X => X = Y
  | 2, _, Y, X => X = Y
  | 3, _, Y, X => X = Y
  | 4, t, Y, X => X = outOf m c t Y

/-- The proof data on core `c`. -/
def rdats (c : Dev nD) : RDat τ (Elt F) Unit ℕ (UR sig nD τ) ℕ cfg0 c where
  A w := V m c (Pipeline.arrRef spec0 w)
  after w t Y X := afterOf m c w t Y X
  Φ _ := Pipeline.ΦA spec0 c
  q _ := fullShare
  owed _ := 0

theorem finds_0 (c : Dev nD) (t : Fin cfg0.N) (Y) (h : (rdats m c).Finds 0 t Y) : Y = iblk m c 0 t := by
  obtain ⟨d, rfl⟩ := (rdats m c).finds_in_eq_fetched 0 rfl (fun _ _ _ => rfl) (fun t Y X h => h) t Y h
  unfold RDat.fetched RDat.blockOf iblk; rfl
theorem finds_1 (c : Dev nD) (t : Fin cfg0.N) (Y) (h : (rdats m c).Finds 1 t Y) : Y = iblk m c 1 t := by
  obtain ⟨d, rfl⟩ := (rdats m c).finds_in_eq_fetched 1 rfl (fun _ _ _ => rfl) (fun t Y X h => h) t Y h
  unfold RDat.fetched RDat.blockOf iblk; rfl
theorem finds_2 (c : Dev nD) (t : Fin cfg0.N) (Y) (h : (rdats m c).Finds 2 t Y) : Y = iblk m c 2 t := by
  obtain ⟨d, rfl⟩ := (rdats m c).finds_in_eq_fetched 2 rfl (fun _ _ _ => rfl) (fun t Y X h => h) t Y h
  unfold RDat.fetched RDat.blockOf iblk; rfl
theorem finds_3 (c : Dev nD) (t : Fin cfg0.N) (Y) (h : (rdats m c).Finds 3 t Y) : Y = iblk m c 3 t := by
  obtain ⟨d, rfl⟩ := (rdats m c).finds_in_eq_fetched 3 rfl (fun _ _ _ => rfl) (fun t Y X h => h) t Y h
  unfold RDat.fetched RDat.blockOf iblk; rfl

/-! ## The body obligation -/

/-- The body table's row at the point is the body on the point's buffers. -/
theorem defs₀_row (t : Fin cfg0.N) : defs₀ (F := F) .tc cfg0.body (cfg0.bodyArgs t (cfg0.slots t)) = bodyAt0 t := by
  unfold defs₀; rw [Defs.onTc_tc]

/-- The body's triple at a point, at the point's blocks. -/
theorem triple_at (c : Dev nD) (t : Fin cfg0.N) (y : Vec F S32x2048 .f32) (K : PUnit → sProp 𝕄) :
    iprop(owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare y
        ∗ (iprop(owns (c : Thread nD τ) (st0_0 t) fullShare (iblk m c 0 t) ∗ owns (c : Thread nD τ) (st0_1 t) fullShare (iblk m c 1 t)
            ∗ owns (c : Thread nD τ) (st0_2 t) fullShare (iblk m c 2 t) ∗ owns (c : Thread nD τ) (st0_3 t) fullShare (iblk m c 3 t)
            ∗ owns (c : Thread nD τ) (st0_4 t) fullShare (outOf m c t y)) -∗ K ⟨⟩))
      ⊢ wp frame (wpE (defs₀ (F := F)) Variants.none c none) Set.univ (bodyAt0 t) K := by
  unfold bodyAt0 outOf
  by_cases hc : k0_cond1 (grid0.coords t) = 1#1
  · rw [if_pos hc]
    exact triple_last c Set.univ (grid0.coords t) hc _ _ _ _ _ _ _ _ _ _ (iblk m c 0 t) (iblk m c 1 t) (iblk m c 2 t) (iblk m c 3 t) y K
  · rw [if_neg hc]
    exact triple_row c Set.univ (grid0.coords t) hc _ _ _ _ _ _ _ _ _ _ (iblk m c 0 t) (iblk m c 1 t) (iblk m c 2 t) (iblk m c 3 t) y K

theorem body_obligation (c : Dev nD) : (rdats (F := F) m c).BodyObligation (defs₀ (F := F)) Variants.none () Set.univ := fun t Y hY => by
  rw [bigSep_W0, bigSep_W0, defs₀_row]
  have h0 := finds_0 m c t (Y 0) (hY 0)
  have h1 := finds_1 m c t (Y 1) (hY 1)
  have h2 := finds_2 m c t (Y 2) (hY 2)
  have h3 := finds_3 m c t (Y 3) (hY 3)
  rw [h0, h1, h2, h3]
  refine triple_restated (P := iprop((rdats m c).Φ t.castSucc ∗ (rdats m c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (Y 4)))
    (Q := fun _ => iprop((rdats m c).Φ t.castSucc ∗ (rdats m c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (outOf m c t (Y 4))))
    ?_ rfl .rfl fun _ => ?_
  · iintro ⟨HΦ, HO, H0, H1, H2, H3, H4⟩
    iapply (triple_at m c t (Y 4) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [HO]; · iexact HO
    isplitl [H0]; · iexact H0
    isplitl [H1]; · iexact H1
    isplitl [H2]; · iexact H2
    isplitl [H3]; · iexact H3
    iexact H4
  · rw [show (rdats m c).Φ t.succ = (rdats m c).Φ t.castSucc from rfl,
      show (rdats m c).owesAt () t.succ = (rdats m c).owesAt () t.castSucc from rfl]
    iintro ⟨HΦ, HO, H0, H1, H2, H3, H4⟩
    isplitl [HΦ]; · iexact HΦ
    isplitl [HO]; · iexact HO
    isplitl [H0]
    · iexists (iblk m c 0 t); isplitr; · ipureintro; exact rfl
      iexact H0
    isplitl [H1]
    · iexists (iblk m c 1 t); isplitr; · ipureintro; exact rfl
      iexact H1
    isplitl [H2]
    · iexists (iblk m c 2 t); isplitr; · ipureintro; exact rfl
      iexact H2
    isplitl [H3]
    · iexists (iblk m c 3 t); isplitr; · ipureintro; exact rfl
      iexact H3
    iexists (outOf m c t (Y 4)); isplitr; · ipureintro; exact rfl
    iexact H4

/-! ## The launch -/

set_option backward.isDefEq.respectTransparency.types false in
set_option maxHeartbeats 800000 in
theorem run_post : θ_run defs (onTc (τ := τ) (main (F := F))) (s₀ m ρ)
    (fun r => Tail.Post cfgs 0 (rdats m) (V0 m) [hostOps1] r.2 ∧ r.2.sem = fun _ => 0) :=
  Tail.run_around cfgs 0 launch0 defs₀ Variants.none (rdats m) m ρ main (body_obligation m)
    (fun c w => (rdats m c).share_full (fun _ => rfl) w) (fun _ _ => rfl) (V0 m) [hostOps1] sfx_sub sfx_fresh sfx_keeps
    (hmain m Variants.none) (fun _ _ => rfl) (fun _ _ => rfl)

/-! ## What the output ends at -/

theorem coords_val : ∀ t : Fin cfg0.N, ((grid0.coords t) 0).val = t.val := by
  exact (by decide +kernel : ∀ t : Fin grid0.N, ((grid0.coords t) 0).val = t.val)

theorem off_val : ∀ t : Fin cfg0.N, k0_off1 (grid0.coords t) = ![t.val, 0] := by
  exact (by decide +kernel : ∀ t : Fin grid0.N, k0_off1 (grid0.coords t) = ![t.val, 0])

theorem cond_iff : ∀ t : Fin cfg0.N, k0_cond1 (grid0.coords t) = 1#1 ↔ t.val = 31 := by
  exact (by decide +kernel : ∀ t : Fin grid0.N, k0_cond1 (grid0.coords t) = 1#1 ↔ t.val = 31)

/-- The point that stores a row. -/
def pointOf (r : Fin 32) : Fin cfg0.N := ⟨r.val, by have := r.isLt; exact lt_of_lt_of_eq this (by decide)⟩

/-- An index of a one-row payload. -/
def inRow (n : Fin 2048) : S1x2048.Idx := ix2 (0 : Fin 1) n

/-- The products: row `r` holds the product of point `r`'s blocks. -/
def products (c : Dev nD) : Vec F S32x2048 .f32 := fun j =>
  k0_pay1 (F := F) (iblk m c 1 (pointOf (j 0))) (iblk m c 2 (pointOf (j 0))) (iblk m c 0 (pointOf (j 0))) (inRow (j 1))

theorem rowOf_hit (c : Dev nD) (t : Fin cfg0.N) (y : Vec F S32x2048 .f32) (j : S32x2048.Idx) (h : (j 0).val = t.val) :
    rowOf m c t y j = products m c j := by
  have ht : pointOf (j 0) = t := Fin.ext h
  have e : j = (rowRect (grid0.coords t)).emb (inRow (j 1)) := by
    funext a
    refine Fin.ext ?_
    refine Eq.trans ?_ (ValueKit.rect_emb_unit_val (s := S32x2048) _ _ _ _ a).symm
    have ho := congrFun (off_val t) a
    match a, ho with
    | ⟨0, _⟩, ho => exact h.trans ho.symm
    | ⟨1, _⟩, ho => exact ((congrArg (· + (j 1).val) ho).trans (Nat.zero_add _)).symm
  unfold rowOf stored products
  rw [ht]
  conv_lhs => rw [e]
  rw [Rect.overlay_emb]

theorem rowOf_miss (c : Dev nD) (t : Fin cfg0.N) (y : Vec F S32x2048 .f32) (j : S32x2048.Idx) (h : (j 0).val ≠ t.val) :
    rowOf m c t y j = y j := by
  unfold rowOf stored
  refine Rect.overlay_of_not_mem _ _ _ fun hm => h ?_
  obtain ⟨x, -, rfl⟩ := Finset.mem_map.mp (by rw [Rect.map_emb_univ]; exact hm : j ∈ Finset.univ.map (rowRect (grid0.coords t)).emb)
  have hx : (x 0).val < 1 := (x 0).isLt
  have ho : k0_off1 (grid0.coords t) 0 = t.val := congrFun (off_val t) 0
  refine (ValueKit.rect_emb_unit_val (s := S32x2048) _ _ _ _ 0).trans ?_
  omega

/-- The rows stored by the time a point returns its row. -/
theorem rows_upto (c : Dev nD) (n : ℕ) : ∀ t : Fin cfg0.N, t.val = n → ∀ Y, (rdats m c).Finds 4 t Y →
    ∀ j : S32x2048.Idx, (j 0).val ≤ t.val → rowOf m c t Y j = products m c j := by
  induction n with
  | zero =>
    intro t ht Y hY j hj
    exact rowOf_hit m c t Y j (by omega)
  | succ n ih =>
    intro t ht Y hY j hj
    by_cases hjt : (j 0).val = t.val
    · exact rowOf_hit m c t Y j hjt
    · have hN : t.val < 32 := lt_of_lt_of_eq t.isLt (by decide)
      rw [rowOf_miss m c t Y j hjt]
      have hf : (cfg0.win 4).fetch t = false := rfl
      rcases ((rdats m c).finds_of_pos hf (by omega) Y).mp hY with hfl | ⟨Y', hY', hX⟩
      · have := (flush0_4 _).mp hfl
        simp only at this
        omega
      · have hX : Y = outOf m c ⟨t.val - 1, Nat.lt_of_le_of_lt (Nat.sub_le _ _) t.isLt⟩ Y' := hX
        rw [hX]
        unfold outOf
        rw [if_neg fun hc => by have := (cond_iff _).mp hc; simp only at this; omega]
        exact ih _ (by simp only; omega) Y' hY' j (by simp only; omega)

/-- The threshold. -/
def thr (c : Dev nD) : Elt F .f32 := (iblk m c 3 (pointOf 31) : Vec F S1 .f32) only

/-- What the last point leaves. -/
theorem leaves_last (c : Dev nD) (X) (h : (rdats m c).Leaves 4 (pointOf 31) X) : X = result (products m c) (thr m c) := by
  obtain ⟨Y, hY, hX⟩ := h
  have hX : X = outOf m c (pointOf 31) Y := hX
  rw [hX]
  unfold outOf
  rw [if_pos ((cond_iff _).mpr rfl)]
  have : rowOf m c (pointOf 31) Y = products m c := by
    funext j
    exact rows_upto m c _ _ rfl Y hY j (by have := (j 0).isLt; exact Nat.le_of_lt_succ this)
  rw [this]; rfl

/-- The output's array at the region's end. -/
theorem arr_eq (c : Dev nD) (G) (h : (rdats m c).ArrAt 4 cfg0.N G) : (show Vec F S32x2048 .f32 from G) = result (products m c) (thr m c) := by
  obtain ⟨X, hX, hG⟩ := h.emb_eq_of_wholeAt (t₀ := pointOf 31) (by decide +kernel)
  rw [← leaves_last m c X hX]
  funext j
  exact hG j

theorem tail_v0 (V₀ : Valuation τ sig (Elt F)) : StableHlo.after (List.flatten [hostOps1]) V₀ (Proc.devRef .tc main_v0)
    = (shapeCast S65536 (show Vec F S32x2048 .f32 from V₀ (Proc.devRef .tc main_call0_v2)) shapeCasts_S32x2048_S65536 : Vec F S65536 .f32) := by
  simp only [Gen.hostOps1, StableHlo.TRef.reshape, List.flatten_cons, List.flatten_nil, List.append_nil, List.cons_append, List.nil_append]
  after_results <;> rfl

theorem tail_arg (c : Dev nD) (A) (b : Ref sig .tc) (hb : b = main_arg0 ∨ b = main_arg3) :
    StableHlo.after (List.flatten [hostOps1]) (Pipeline.withArrays spec0 c (V0 m c) A) (Proc.devRef .tc b) = m ((c : Thread nD τ).loc b) := by
  rcases hb with rfl | rfl
  · rw [StableHlo.after_of_forall_not_mem (b := Proc.devRef .tc main_arg0) _ _ (List.forall_iff_forall_mem.mp (by
      simp only [hostOps1, List.flatten_cons, List.flatten_nil, List.append_nil, List.Forall, StableHlo.reshape_writes, Finset.mem_singleton]
      exact StableHlo.devRef_ne_of_ne (by decide))),
      Pipeline.withArrays_of_ne _ c (V0 m c) _ main_arg0 (by exact (by decide : ∀ w, Pipeline.arrRef spec0 w ≠ main_arg0))]
    exact V_main_arg0 m c
  · rw [StableHlo.after_of_forall_not_mem (b := Proc.devRef .tc main_arg3) _ _ (List.forall_iff_forall_mem.mp (by
      simp only [hostOps1, List.flatten_cons, List.flatten_nil, List.append_nil, List.Forall, StableHlo.reshape_writes, Finset.mem_singleton]
      exact StableHlo.devRef_ne_of_ne (by decide))),
      Pipeline.withArrays_of_ne _ c (V0 m c) _ main_arg3 (by exact (by decide : ∀ w, Pipeline.arrRef spec0 w ≠ main_arg3))]
    exact V_main_arg3 m c

/-- The run: the result, the arguments as they were, every counter at zero. -/
theorem run : θ_run defs (onTc (τ := τ) (main (F := F))) ⟨m, fun _ => 0, ρ⟩ (fun r => (∀ c : Dev nD,
      r.2.mem ((c : Thread nD τ).loc main_v0)
        = (shapeCast S65536 (result (products m c) (thr m c)) shapeCasts_S32x2048_S65536 : Vec F S65536 .f32)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)) ∧ r.2.sem = fun _ => 0) :=
  (θ_run defs _ _).mono (fun r h => ⟨fun c => by
    obtain ⟨hArr, A, hA, hrest⟩ := h.1 c
    refine ⟨?_, ?_, ?_, ?_, ?_⟩
    · rw [hrest main_v0 (Pipeline.mem_restRefs_of main_v0 (by decide) (by decide)), tail_v0,
        ← arr_eq m c (A 4) (hA 4)]
      congr 1
      exact Pipeline.withArrays_arr spec0 launch0.win.arr_inj c (V0 m c) A 4
    · rw [hrest main_arg0 (Pipeline.mem_restRefs_of main_arg0 (by decide) (by decide))]
      exact tail_arg m c A main_arg0 (.inl rfl)
    · refine Eq.trans ?_ (V_main_arg1 m c)
      exact (congrFun ((rdats m c).ArrAt_in 2 rfl _) _).mp (hArr 2)
    · refine Eq.trans ?_ (V_main_arg2 m c)
      exact (congrFun ((rdats m c).ArrAt_in 1 rfl _) _).mp (hArr 1)
    · rw [hrest main_arg3 (Pipeline.mem_restRefs_of main_arg3 (by decide) (by decide))]
      exact tail_arg m c A main_arg3 (.inr rfl), h.2⟩) (run_post m ρ)

/-! ## The blocks -/

theorem V_call0_v0 (c : Dev nD) : V m c main_call0_v0
    = (shapeCast S1x1024 (show Vec F S1024 .f32 from m ((c : Thread nD τ).loc main_arg0)) shapeCasts_S1024_S1x1024 : Vec F S1x1024 .f32) := by
  show StableHlo.after (List.flatten [hostOps0]) (fun b => m (c, b)) (Proc.devRef .tc main_call0_v0) = _
  simp only [Gen.hostOps0, StableHlo.TRef.reshape, List.flatten_cons, List.flatten_nil, List.append_nil, List.cons_append, List.nil_append]
  after_results <;> rfl

theorem V_call0_v1 (c : Dev nD) : V m c main_call0_v1
    = (shapeCast S1 (show Vec F S_ .f32 from m ((c : Thread nD τ).loc main_arg3)) shapeCasts_S_S1 : Vec F S1 .f32) := by
  show StableHlo.after (List.flatten [hostOps0]) (fun b => m (c, b)) (Proc.devRef .tc main_call0_v1) = _
  simp only [Gen.hostOps0, StableHlo.TRef.reshape, List.flatten_cons, List.flatten_nil, List.append_nil, List.cons_append, List.nil_append]
  after_results <;> rfl

end Cert.Kernel.Run

end
-- ==== Proof.Product.lean ====
/-
  The matrix product in blocks: what the one-call product leaves in its array, entry by entry.
-/
module

public import proofs.«01_k».proof.Proof.Gen.Words.Run
public import proofs.«01_k».proof.Proof.Gen.Words.Skeleton
public import Idealize.ShloMosaic.Lib.Pipeline.ValueKit
public import Idealize.ShloMosaic.Lib.Pointwise

@[expose] public section

set_option maxRecDepth 16384

noncomputable section

namespace Cert.Words.Product

open Cert.Words Cert.Words.Gen
open Idealize.ShloMosaic Idealize.ShloMosaic.TcCoe Idealize.SL.Sem
open Idealize.ShloMosaic.Pipeline (Dat)

variable {F : FTy → Type} [FloatOps F]

/-- Rows `2048 b` to `2048 b + 2047` of a matrix. -/
def blockRect (b : Fin 32) : Rect S65536x1024 := Rect.unit (s := S65536x1024) ![2048 * b.val, 0] S2048x1024.size (by
  have := b.isLt
  intro a
  match a with
  | ⟨0, _⟩ => show 2048 * b.val + 2048 ≤ 65536; omega
  | ⟨1, _⟩ => show 0 + 1024 ≤ 1024; omega)

/-- The product of one block of rows: the inputs, one row, against the rows of the masked weights. -/
def block (x0 : Vec F S1x1024 .f32) (x1 x2 : Vec F S65536x1024 .f32) (b : Fin 32) : FVec F S1x2048 .f32 :=
  k0_pay1 x0 (View.ld x2 (blockRect b)) (View.ld x1 (blockRect b))

theorem ld_all (x : Vec F S1x1024 .f32) : View.ld x r0_0 = x := by
  funext j
  refine congrArg x (funext fun a => Fin.ext ?_)
  refine (ValueKit.rect_emb_unit_val (s := S1x1024) _ _ _ j a).trans ?_
  match a with
  | ⟨0, _⟩ => exact Nat.zero_add _
  | ⟨1, _⟩ => exact Nat.zero_add _

theorem canon_all [∀ e, Nonempty (Elt F e)] (p : Vec F S1x65536 .f32) : View.canon [⟨r0_33, p⟩] = p := by
  funext j
  have e : j = r0_33.emb j := funext fun a => Fin.ext (by
    refine ((ValueKit.rect_emb_unit_val (s := S1x65536) _ _ _ j a).trans ?_).symm
    match a with
    | ⟨0, _⟩ => exact Nat.zero_add _
    | ⟨1, _⟩ => exact Nat.zero_add _)
  conv_lhs => rw [e]
  exact View.canon_cons_emb r0_33 p [] j

set_option maxHeartbeats 2000000 in
theorem out_apply [∀ e, Nonempty (Elt F e)] (x0 : Vec F S1x1024 .f32) (x1 x2 : Vec F S65536x1024 .f32) (j : S1x65536.Idx) (b : Fin 32) (i : S1x2048.Idx)
    (h : (j 1).val = 2048 * b.val + (i 1).val) : out0_3 x0 x1 x2 j = block x0 x1 x2 b i := by
  unfold out0_3
  rw [canon_all, ld_all]
  unfold k0_pay33
  refine concatenate_apply_piece (t := S1x65536) 1 _ _ j b.val (by have := b.isLt; simpa using this) S1x2048 (block x0 x1 x2 b) ?_ rfl (2048 * b.val) ?_ i ?_ ?_
  · clear h
    fin_cases b
    all_goals (dsimp only [List.getElem_cons_succ, List.getElem_cons_zero, block, k0_pay1]; rfl)
  · rw [List.map_take]
    simp only [List.map_cons, List.map_nil]
    rw [show ([S1x2048, S1x2048, S1x2048, S1x2048, S1x2048, S1x2048, S1x2048, S1x2048, S1x2048, S1x2048, S1x2048, S1x2048,
        S1x2048, S1x2048, S1x2048, S1x2048, S1x2048, S1x2048, S1x2048, S1x2048, S1x2048, S1x2048, S1x2048, S1x2048, S1x2048,
        S1x2048, S1x2048, S1x2048, S1x2048, S1x2048, S1x2048, S1x2048] : List Shape) = List.replicate 32 S1x2048 from rfl,
      List.take_replicate, List.map_replicate, List.sum_replicate, Nat.min_eq_left (Nat.le_of_lt b.isLt)]
    exact Nat.mul_comm _ _
  · intro a ha
    match a, ha with
    | ⟨0, _⟩, _ =>
      have h1 : (i 0).val < 1 := (i 0).isLt
      have h2 : (j 0).val < 1 := (j 0).isLt
      show (i 0).val = (j 0).val
      omega
    | ⟨1, _⟩, ha => exact absurd rfl ha
  · exact h.symm

/-! ## The array after the region -/

variable (m : (ℓ : Loc nD τ sig) → Buf (Elt F) ℓ)

/-- The inputs as the region finds them: one row. -/
theorem V_v0 (c : Dev nD) : V m c main_v0
    = (shapeCast S1x1024 (show Vec F S1024 .f32 from m ((c : Thread nD τ).loc main_arg0)) shapeCasts_S1024_S1x1024 : Vec F S1x1024 .f32) := by
  show StableHlo.after (List.flatten [hostOps0]) (fun b => m (c, b)) (Proc.devRef .tc main_v0) = _
  simp only [Gen.hostOps0, List.flatten_cons, List.flatten_nil, List.append_nil, List.cons_append, List.nil_append]
  after_results <;> rfl

theorem iblk_0 (c : Dev nD) (t : Fin cfg0.N) : (show Vec F S1x1024 .f32 from iblk m c 0 t) = V m c main_v0 := by
  unfold iblk; funext j
  refine congrArg (V m c main_v0) (funext fun a => Fin.ext ?_)
  exact Pipeline.Window.rect_emb_val_of_index_zero win0_0 t a (by revert t a; decide +kernel) j
theorem iblk_1 (c : Dev nD) (t : Fin cfg0.N) : (show Vec F S65536x1024 .f32 from iblk m c 1 t) = m ((c : Thread nD τ).loc main_arg1) := by
  refine Eq.trans ?_ (V_main_arg1 m c)
  unfold iblk; funext j
  refine congrArg (V m c main_arg1) (funext fun a => Fin.ext ?_)
  exact Pipeline.Window.rect_emb_val_of_index_zero win0_1 t a (by revert t a; decide +kernel) j
theorem iblk_2 (c : Dev nD) (t : Fin cfg0.N) : (show Vec F S65536x1024 .f32 from iblk m c 2 t) = m ((c : Thread nD τ).loc main_arg2) := by
  refine Eq.trans ?_ (V_main_arg2 m c)
  unfold iblk; funext j
  refine congrArg (V m c main_arg2) (funext fun a => Fin.ext ?_)
  exact Pipeline.Window.rect_emb_val_of_index_zero win0_2 t a (by revert t a; decide +kernel) j

theorem reg_eq [∀ e, Nonempty (Elt F e)] (c : Dev nD) : (show Vec F S1x65536 .f32 from Value.reg_main_v1 m c)
    = out0_3 (shapeCast S1x1024 (show Vec F S1024 .f32 from m ((c : Thread nD τ).loc main_arg0)) shapeCasts_S1024_S1x1024)
        (m ((c : Thread nD τ).loc main_arg1)) (m ((c : Thread nD τ).loc main_arg2)) := by
  rw [← V_v0, ← iblk_0 m c ⟨0, by decide⟩, ← iblk_1 m c ⟨0, by decide⟩, ← iblk_2 m c ⟨0, by decide⟩]
  have e := after0_3 m c ⟨0, by decide⟩
  revert e
  generalize out0_3 (show Vec F S1x1024 .f32 from iblk m c 0 ⟨0, by decide⟩) (show Vec F S65536x1024 .f32 from iblk m c 1 ⟨0, by decide⟩)
    (show Vec F S65536x1024 .f32 from iblk m c 2 ⟨0, by decide⟩) = Y
  intro e
  exact Dat.arrAt_eq_of_after_last (dat := dats m 0 c) 3 ⟨0, by decide⟩ (by decide +kernel) Y fun j => congrFun e j

/-- Its entries: entry `2048 b + n` is entry `n` of block `b`. -/
theorem reg_apply [∀ e, Nonempty (Elt F e)] (c : Dev nD) (j : S1x65536.Idx) (b : Fin 32) (i : S1x2048.Idx) (h : (j 1).val = 2048 * b.val + (i 1).val) :
    (show Vec F S1x65536 .f32 from Value.reg_main_v1 m c) j
      = block (shapeCast S1x1024 (show Vec F S1024 .f32 from m ((c : Thread nD τ).loc main_arg0)) shapeCasts_S1024_S1x1024)
          (m ((c : Thread nD τ).loc main_arg1)) (m ((c : Thread nD τ).loc main_arg2)) b i :=
  (congrFun (reg_eq m c) j).trans (out_apply _ _ _ j b i h)

end Cert.Words.Product

end
-- ==== Proof.Algebra.lean ====
/-
  Over exact arithmetic the product in blocks is the whole product, so the selection on top of it is the same.
-/
module

public import proofs.«01_k».proof.Proof.Product
public import proofs.«01_k».proof.Proof.Gen.WordsIdeal.Run
public import proofs.«01_k».proof.Proof.Gen.ReferenceIdeal.Run

@[expose] public section

set_option maxRecDepth 16384

noncomputable section

namespace Cert.WordsIdeal.Product

open Cert.WordsIdeal Cert.WordsIdeal.Gen
open Idealize.ShloMosaic Idealize.ShloMosaic.TcCoe Idealize.SL.Sem

variable (m : (ℓ : Loc nD τ sig) → Buf (Elt Ideal) ℓ)

theorem reg_eq (c : Dev nD) : (show Vec Ideal S1x65536 .f32 from Cert.WordsIdeal.Value.reg_main_v1 m c)
    = Cert.Words.Value.reg_main_v1 (F := Ideal) m c := rfl

/-- An entry of a block, over exact arithmetic. -/
theorem block_apply (x : Vec Ideal S1024 .f32) (c w : Vec Ideal S65536x1024 .f32) (b : Fin 32) (n : Fin 2048) (i : Fin 65536)
    (h : i.val = 2048 * b.val + n.val) :
    Cert.Words.Product.block (F := Ideal) (shapeCast S1x1024 x shapeCasts_S1024_S1x1024) c w b (ix2 (0 : Fin 1) n)
      = ∑ k : Fin 1024, x (ix1 k) * (w (ix2 i k) * c (ix2 i k)) := by
  unfold Cert.Words.Product.block Cert.Words.Gen.k0_pay1
  pointwise
  refine Finset.sum_congr rfl fun k _ => ?_
  have e : ∀ h₁ h₂, (ix2 (⟨(Cert.Words.Product.blockRect b).off 0 + (Cert.Words.Product.blockRect b).stride 0 * n.val, h₁⟩ : Fin 65536)
      (⟨(Cert.Words.Product.blockRect b).off 1 + (Cert.Words.Product.blockRect b).stride 1 * k.val, h₂⟩ : Fin 1024)) = ix2 i k := fun h₁ h₂ => by
    congr 1
    · refine Fin.ext ?_
      show 2048 * b.val + 1 * n.val = i.val
      omega
    · refine Fin.ext ?_
      show 0 + 1 * k.val = k.val
      omega
  rw [e]

/-- The product in blocks is the product. -/
theorem product_eq (c : Dev nD) (x : Vec Ideal S1024 .f32) (hx : x = m ((c : Thread nD τ).loc main_arg0))
    (a w : Vec Ideal S65536x1024 .f32) (ha : a = m ((c : Thread nD τ).loc main_arg1)) (hw : w = m ((c : Thread nD τ).loc main_arg2)) :
    shapeCast S65536 (show Vec Ideal S1x65536 .f32 from Cert.WordsIdeal.Value.reg_main_v1 m c) shapeCasts_S1x65536_S65536
      = Host.dotGeneral (F := Ideal) (φ₁ := .f32) (φ₂ := .f32) Cert.ReferenceIdeal.dot_S65536x1024_S1024_S65536_1_0_0_n_n_n none
          (mulf (F := Ideal) (φ := .f32) w a) x := by
  funext j
  have hb : (j 0).val / 2048 < 32 := by have h : (j 0).val < 65536 := (j 0).isLt; omega
  have hn : (j 0).val % 2048 < 2048 := Nat.mod_lt _ (by decide)
  rw [reg_eq]
  have e := (Cert.Words.Product.reg_apply m c (ix2 (0 : Fin 1) (j 0)) ⟨(j 0).val / 2048, hb⟩ (ix2 (0 : Fin 1) (⟨(j 0).val % 2048, hn⟩ : Fin 2048))
    (Nat.div_add_mod _ _).symm).trans (block_apply _ _ _ _ _ (j 0) (Nat.div_add_mod _ _).symm)
  refine Eq.trans ?_ (e.trans ?_)
  · pointwise
  · subst hx ha hw
    pointwise
    exact Finset.sum_congr rfl fun k _ => mul_comm _ _

end Cert.WordsIdeal.Product

end
-- ==== Proof.Search.lean ====
/-
  The mathematics of the selection, without the program. A search that settles one bit at a time keeps a bracket: a
  number at which a property holds, below one at which it fails. A set of the first elements of an order is determined
  by its size. A threshold and a bound on the position among the elements at the threshold cut out such a set.
-/
module

public import Mathlib.Data.Fintype.Card
public import Mathlib.Data.Finset.Card
public import Mathlib.Data.List.FinRange
public import Mathlib.Tactic.Ring
public import Mathlib.Tactic.Linarith

@[expose] public section

namespace Cert.Search

/-! ## A bracket, and its halving -/

/-- `p` holds at `a`, a multiple of `w`, and fails one `w` further on. -/
structure Bracket (p : ℕ → Prop) (w a : ℕ) : Prop where
  dvd : w ∣ a
  yes : p a
  no : ¬ p (a + w)

/-- Trying `p` in the middle halves a bracket. -/
theorem Bracket.half {p : ℕ → Prop} [DecidablePred p] {w a : ℕ} (h : Bracket p (2 * w) a) :
    Bracket p w (if p (a + w) then a + w else a) := by
  have hd : w ∣ a := Dvd.dvd.trans ⟨2, Nat.mul_comm 2 w⟩ h.dvd
  split
  · next hp => exact ⟨Nat.dvd_add hd (Nat.dvd_refl w), hp, by have := h.no; rwa [Nat.two_mul, ← Nat.add_assoc] at this⟩
  · next hp => exact ⟨hd, h.yes, hp⟩

/-- Two halvings. -/
theorem Bracket.quarter {p : ℕ → Prop} [DecidablePred p] {w a : ℕ} (h : Bracket p (4 * w) a) :
    Bracket p w (if p (a + 2 * w) then (if p (a + 2 * w + w) then a + 2 * w + w else a + 2 * w)
      else (if p (a + w) then a + w else a)) := by
  have h2 : Bracket p (2 * w) (if p (a + 2 * w) then a + 2 * w else a) := Bracket.half (by rwa [← Nat.mul_assoc])
  split
  · next hp => rw [if_pos hp] at h2; exact h2.half
  · next hp => rw [if_neg hp] at h2; exact h2.half

/-- A word whose lower bits are clear, with one of them set, is the sum. -/
theorem toNat_or_bit (a : BitVec 32) (j : ℕ) (hj : j < 32) (h : 2 ^ (j + 1) ∣ a.toNat) :
    (a ||| BitVec.ofNat 32 (2 ^ j)).toNat = a.toNat + 2 ^ j := by
  obtain ⟨q, hq⟩ := h
  have hlt : 2 ^ j < 2 ^ (j + 1) := Nat.pow_lt_pow_right (by omega) (by omega)
  have hj' : 2 ^ j < 2 ^ 32 := Nat.pow_lt_pow_right (by omega) hj
  rw [BitVec.toNat_or, BitVec.toNat_ofNat, Nat.mod_eq_of_lt hj', hq, Nat.two_pow_add_eq_or_of_lt hlt]

/-- A fold over the numbers below `n` carries a property indexed by the steps taken. -/
theorem foldl_finRange {σ : Type} (P : ℕ → σ → Prop) : ∀ (n : ℕ) (g : Fin n → σ → σ) (s : σ), P 0 s →
    (∀ (k : Fin n) (t : σ), P k.val t → P (k.val + 1) (g k t)) → P n ((List.finRange n).foldl (fun acc k => g k acc) s)
  | 0, _, _, h0, _ => h0
  | n + 1, g, s, h0, hs => by
    rw [List.finRange_succ_last, List.foldl_append, List.foldl_map]
    exact hs (Fin.last n) _ (foldl_finRange P n (fun k => g k.castSucc) s h0 fun k t h => hs k.castSucc t h)

/-! ## First elements -/

section First
variable {ι : Type} [DecidableEq ι]

/-- Two sets of one size, each of which has all its elements before everything outside it, are equal. -/
theorem eq_of_first (before : ι → ι → Prop) (hasymm : ∀ i j, before i j → ¬ before j i) (S T : Finset ι)
    (hc : S.card = T.card) (hS : ∀ i ∈ S, ∀ j, j ∉ S → before i j) (hT : ∀ i ∈ T, ∀ j, j ∉ T → before i j) : S = T := by
  by_contra hne
  have h1 : ¬ S ⊆ T := fun h => hne (Finset.eq_of_subset_of_card_le h (le_of_eq hc.symm))
  have h2 : ¬ T ⊆ S := fun h => hne (Finset.eq_of_subset_of_card_le h (le_of_eq hc)).symm
  obtain ⟨i, hi, hi'⟩ := Finset.not_subset.1 h1
  obtain ⟨j, hj, hj'⟩ := Finset.not_subset.1 h2
  exact hasymm i j (hS i hi j hj') (hT j hj i hi')

end First

section Cut
variable {ι : Type} [Fintype ι] (u pos : ι → ℕ)

/-- Greater key first, and the lower position among equal keys. -/
def Before (i j : ι) : Prop := u j < u i ∨ (u j = u i ∧ pos i < pos j)

theorem Before.asymm (i j : ι) (h : Before u pos i j) : ¬ Before u pos j i := by
  unfold Before at *; omega

/-- How many keys reach `t`. -/
def atLeast (t : ℕ) : ℕ := (Finset.univ.filter fun i => t ≤ u i).card

/-- How many keys are above `t`. -/
def above (t : ℕ) : ℕ := (Finset.univ.filter fun i => t < u i).card

/-- How many keys are `t`, at a position below `x`. -/
def tiesBelow (t x : ℕ) : ℕ := (Finset.univ.filter fun i => u i = t ∧ pos i < x).card

theorem above_eq (t : ℕ) : above u t = atLeast u (t + 1) := rfl

/-- The keys that reach `t` are those above it and those that equal it. -/
theorem atLeast_eq (t : ℕ) : atLeast u t = above u t + (Finset.univ.filter fun i => u i = t).card := by
  classical
  unfold atLeast above
  rw [← Finset.card_union_of_disjoint]
  · congr 1; ext i; simp only [Finset.mem_filter, Finset.mem_univ, true_and, Finset.mem_union]; omega
  · rw [Finset.disjoint_left]; intro i hi hj
    simp only [Finset.mem_filter, Finset.mem_univ, true_and] at hi hj; omega

/-- One more position holds one more tie at most. -/
theorem tiesBelow_succ_le (hpos : Function.Injective pos) (t x : ℕ) : tiesBelow u pos t (x + 1) ≤ tiesBelow u pos t x + 1 := by
  classical
  have h1 : (Finset.univ.filter fun i => pos i = x).card ≤ 1 := Finset.card_le_one.2 fun a ha b hb => by
    simp only [Finset.mem_filter, Finset.mem_univ, true_and] at ha hb
    exact hpos (ha.trans hb.symm)
  refine le_trans (Finset.card_le_card (t := (Finset.univ.filter fun i => u i = t ∧ pos i < x) ∪ Finset.univ.filter fun i => pos i = x) ?_)
    ((Finset.card_union_le _ _).trans (Nat.add_le_add_left h1 _))
  intro i hi
  simp only [Finset.mem_filter, Finset.mem_univ, true_and, Finset.mem_union] at hi ⊢
  omega

/-- The elements above `t`, and those at `t` up to the position `x`. -/
def cut (t x : ℕ) : Finset ι := Finset.univ.filter fun i => t < u i ∨ (u i = t ∧ pos i < x + 1)

theorem card_cut (t x : ℕ) : (cut u pos t x).card = above u t + tiesBelow u pos t (x + 1) := by
  classical
  unfold cut above tiesBelow
  rw [← Finset.card_union_of_disjoint]
  · congr 1; ext i; simp only [Finset.mem_filter, Finset.mem_univ, true_and, Finset.mem_union]
  · rw [Finset.disjoint_left]; intro i hi hj
    simp only [Finset.mem_filter, Finset.mem_univ, true_and] at hi hj; omega

/-- What a cut takes comes before what it leaves. -/
theorem cut_first (t x : ℕ) (i : ι) (hi : i ∈ cut u pos t x) (j : ι) (hj : j ∉ cut u pos t x) : Before u pos i j := by
  unfold cut at hi hj
  unfold Before
  simp only [Finset.mem_filter, Finset.mem_univ, true_and] at hi hj
  omega

end Cut

end Cert.Search
-- ==== Proof.Select.lean ====
/-
  What the kernel's selection stage selects, on words: the 1310 elements that come first when a greater total-order key
  comes first and, among equal keys, the lower position. The counts of the two searches are numbers of elements; the
  first search brackets the greatest key that 1310 keys reach, the second the position of the last tie taken.
-/
module

public import proofs.«01_k».proof.Proof.Part
public import proofs.«01_k».proof.Proof.Search
public import Idealize.ShloMosaic.Lib.SortKey
public import Idealize.ShloMosaic.Lib.IndicatorCount
public import Idealize.ShloMosaic.Lib.WordCmp
public import Idealize.ShloMosaic.Lib.Pointwise.Reshape
public import Idealize.ShloMosaic.PureOps.Reduce

@[expose] public section

set_option maxRecDepth 16384

noncomputable section

namespace Cert.Kernel.Select

open Cert.Kernel Cert.Kernel.Gen Cert.Kernel.Part Cert.Search
open Idealize.ShloMosaic Idealize.ShloMosaic.TcCoe

/-- The total-order key of the element at `i`. -/
def key (v : Vec Bits S32x2048 .f32) (i : S32x2048.Idx) : ℕ := (totalOrderKey (v i : BitVec 32)).toNat

/-- The row-major position of an index. -/
def pos (i : S32x2048.Idx) : ℕ := (i 0).val * 2048 + (i 1).val

theorem pos_injective : Function.Injective pos := by
  intro i j h
  have h0 : (i 1).val < 2048 := (i 1).isLt
  have h1 : (j 1).val < 2048 := (j 1).isLt
  unfold pos at h
  funext a
  match a with
  | ⟨0, _⟩ => exact Fin.ext (show (i 0).val = (j 0).val by omega)
  | ⟨1, _⟩ => exact Fin.ext (show (i 1).val = (j 1).val by omega)

theorem pos_lt (i : S32x2048.Idx) : pos i < 65536 := by
  have h0 : (i 0).val < 32 := (i 0).isLt
  have h1 : (i 1).val < 2048 := (i 1).isLt
  unfold pos; omega

/-! ## Words -/

/-- Reading a word with its top bit flipped as signed is reading it as unsigned, less 2³¹. -/
theorem toInt_xor_top (t : BitVec 32) : (t ^^^ 0x80000000#32).toInt = (t.toNat : ℤ) - 2 ^ 31 := by
  have h := totalOrderKey_toNat_eq_sortableKey_toInt (sortableKey (t ^^^ 0x80000000#32))
  rw [totalOrderKey_eq_sortableKey_xor, sortableKey_sortableKey, BitVec.xor_assoc, BitVec.xor_self, BitVec.xor_zero] at h
  omega

/-- The kernel's sort key of an element. -/
theorem pay4_apply (v : Vec Bits S32x2048 .f32) (i : S32x2048.Idx) :
    k0_pay4 v i = totalOrderKey (v i : BitVec 32) ^^^ 0x80000000#32 := by
  have h3 : k0_pay3 v = v := by
    unfold k0_pay3; exact shapeCast_id _ _
  rw [← sortableKey_eq_totalOrderKey_xor]
  unfold k0_pay4
  rw [h3]
  show Scalar.select (IntOp.cmpi .slt (v i : BitVec 32) 0#32) (((v i : BitVec 32) ^^^ 2147483648#32) ^^^ 4294967295#32) (v i : BitVec 32) = _
  generalize (v i : BitVec 32) = w
  rw [WordCmp.cmpi_slt_zero, WordCmp.select_ofBool]
  cases hm : w.msb
  · rw [sortableKey_of_msb_false w hm, if_neg]
    have h2 : 2 * w.toNat < 2 ^ 32 := BitVec.msb_eq_false_iff_two_mul_lt.mp hm
    rw [decide_eq_true_eq]; show ¬ 2 ^ (32 - 1) ≤ w.toNat; omega
  · rw [sortableKey_of_msb_true w hm, if_pos]
    · rw [BitVec.xor_assoc]; rfl
    · have h2 : 2 ^ 32 ≤ 2 * w.toNat := BitVec.msb_eq_true_iff_two_mul_ge.mp hm
      rw [decide_eq_true_eq]; show 2 ^ (32 - 1) ≤ w.toNat; omega

theorem sge_iff (v : Vec Bits S32x2048 .f32) (t : BitVec 32) (i : S32x2048.Idx) :
    IntOp.cmpi .sge (k0_pay4 v i) (t ^^^ 0x80000000#32) = 1#1 ↔ t.toNat ≤ key v i := by
  rw [WordCmp.cmpi_sge_eq, WordCmp.ofBool_decide_eq_one_iff, pay4_apply, toInt_xor_top, toInt_xor_top]
  unfold key; omega

theorem sgt_iff (v : Vec Bits S32x2048 .f32) (t : BitVec 32) (i : S32x2048.Idx) :
    k0_pay8 v t i = 1#1 ↔ t.toNat < key v i := by
  show IntOp.cmpi .sgt (k0_pay4 v i) (t ^^^ 0x80000000#32) = 1#1 ↔ _
  rw [WordCmp.cmpi_sgt_eq, WordCmp.ofBool_decide_eq_one_iff, pay4_apply, toInt_xor_top, toInt_xor_top]
  unfold key; omega

theorem eq_iff (v : Vec Bits S32x2048 .f32) (t : BitVec 32) (i : S32x2048.Idx) :
    k0_pay9 v t i = 1#1 ↔ key v i = t.toNat := by
  show IntOp.cmpi .eq (k0_pay4 v i) (t ^^^ 0x80000000#32) = 1#1 ↔ _
  rw [WordCmp.cmpi_eq_eq, WordCmp.ofBool_decide_eq_one_iff, pay4_apply]
  unfold key
  constructor
  · intro h
    have h2 := congrArg (fun w => w ^^^ 0x80000000#32) h
    simp only [BitVec.xor_assoc, BitVec.xor_self, BitVec.xor_zero] at h2
    rw [h2]
  · intro h
    rw [BitVec.eq_of_toNat_eq h]

/-- The position the kernel writes beside an element. -/
theorem pay12_apply (i : S32x2048.Idx) : k0_pay12 i = BitVec.ofNat 32 (pos i) := by
  have h0 : (i 0).val < 32 := (i 0).isLt
  have h1 : (i 1).val < 2048 := (i 1).isLt
  unfold k0_pay12 pos
  show IntOp.addi (IntOp.muli (iota .tc S32x2048 32 [0] iota_S32x2048_d0_w32 i) 2048#32) (iota .tc S32x2048 32 [1] iota_S32x2048_d1_w32 i) = _
  rw [WordCmp.iota_at, WordCmp.iota_at]
  show IntOp.addi (IntOp.muli (BitVec.ofNat 32 (0 * 32 + (i 0).val)) (BitVec.ofNat 32 2048)) (BitVec.ofNat 32 (0 * 2048 + (i 1).val)) = _
  rw [Nat.zero_mul, Nat.zero_add, Nat.zero_add, WordCmp.muli_ofNat, WordCmp.addi_ofNat]

theorem slt_pos_iff (x : BitVec 32) (hx : x.toNat < 2 ^ 31) (i : S32x2048.Idx) :
    IntOp.cmpi .slt (k0_pay12 i) x = 1#1 ↔ pos i < x.toNat := by
  have hp := pos_lt i
  rw [pay12_apply, WordCmp.cmpi_slt_of_lt, WordCmp.ofBool_decide_eq_one_iff, WordCmp.toNat_ofNat_of_lt (by omega)]
  · rw [WordCmp.toNat_ofNat_of_lt (by omega)]; omega
  · exact hx

/-! ## Counts -/

instance : Subsingleton S1.Idx := ⟨fun a b => funext fun x => by
  match x with
  | ⟨0, _⟩ => exact Subsingleton.elim (α := Fin 1) _ _⟩

/-- The kernel's sum of a mask is the number of its ones. -/
theorem count_eq (p : IVec S32x2048 1) :
    extractAt ![0, 0, 0] (shapeCast S1x1x1 (multiReductionI .add [1, 2] S1 (shapeCast S1x32x2048 (extui 32 p natLt_1_32) shapeCasts_S32x2048_S1x32x2048) 0#32 reduces_S1x32x2048_S1 rfl) shapeCasts_S1_S1x1x1) inpos_S1x1x1_p0_0_0
      = BitVec.ofNat 32 (Finset.univ.filter fun i => p i = 1#1).card := by
  have hm : ∀ (x : IVec S1x32x2048 32) (j : S1.Idx),
      multiReductionI .add [1, 2] S1 x 0#32 reduces_S1x32x2048_S1 rfl j = Finset.univ.fold IntOp.addi 0#32 x := fun x j => by
    refine (multiReductionI_eq_fold .add x 0#32 reduces_S1x32x2048_S1 rfl j).trans ?_
    rw [Finset.filter_true_of_mem fun i _ => Subsingleton.elim _ _]
    rfl
  unfold extractAt
  rw [show ∀ (x : IVec S1 32) (j : S1x1x1.Idx), shapeCast S1x1x1 x shapeCasts_S1_S1x1x1 j = x (Shape.reshapeEquiv shapeCasts_S1_S1x1x1 j) from fun _ _ => rfl]
  refine (hm _ _).trans ?_
  refine (IndicatorCount.fold_addi_setWidth_eq_card (fun i => p (Shape.reshapeEquiv shapeCasts_S32x2048_S1x32x2048 i)) Finset.univ).trans ?_
  refine congrArg (BitVec.ofNat 32) (Finset.card_bij (fun i _ => Shape.reshapeEquiv shapeCasts_S32x2048_S1x32x2048 i) ?_ ?_ ?_)
  · intro i hi; simpa using hi
  · intro a _ b _ h; exact (Shape.reshapeEquiv shapeCasts_S32x2048_S1x32x2048).injective h
  · intro b hb
    refine ⟨(Shape.reshapeEquiv shapeCasts_S32x2048_S1x32x2048).symm b, ?_, Equiv.apply_symm_apply _ _⟩
    simpa using hb

theorem card_filter_le (q : S32x2048.Idx → Prop) [DecidablePred q] : (Finset.univ.filter q).card ≤ 65536 := by
  refine (Finset.card_le_univ _).trans ?_
  rw [← Finset.card_univ, ← Finset.card_image_of_injective _ pos_injective]
  refine (Finset.card_le_card (t := Finset.range 65536) fun n hn => ?_).trans (by rw [Finset.card_range])
  obtain ⟨i, _, rfl⟩ := Finset.mem_image.1 hn
  exact Finset.mem_range.2 (pos_lt i)

theorem atLeast_le (v : Vec Bits S32x2048 .f32) (t : ℕ) : atLeast (key v) t ≤ 65536 := card_filter_le _

/-- The kernel's count of the keys that reach `t`. -/
theorem count_atLeast (v : Vec Bits S32x2048 .f32) (t : BitVec 32) :
    extractAt ![0, 0, 0] (shapeCast S1x1x1 (multiReductionI .add [1, 2] S1 (shapeCast S1x32x2048 (extui 32 (cmpi .sge (k0_pay4 v) (broadcast S32x2048 (Scalar.xori t 2147483648#32))) natLt_1_32) shapeCasts_S32x2048_S1x32x2048) 0#32 reduces_S1x32x2048_S1 rfl) shapeCasts_S1_S1x1x1) inpos_S1x1x1_p0_0_0
      = BitVec.ofNat 32 (atLeast (key v) t.toNat) := by
  rw [count_eq]
  exact congrArg (fun s : Finset S32x2048.Idx => BitVec.ofNat 32 s.card) (Finset.filter_congr fun i _ => sge_iff v t i)

/-- The kernel's count of the keys above `t`. -/
theorem count_above (v : Vec Bits S32x2048 .f32) (t : BitVec 32) :
    extractAt ![0, 0, 0] (k0_pay10 v t) inpos_S1x1x1_p0_0_0 = BitVec.ofNat 32 (above (key v) t.toNat) := by
  refine (count_eq (k0_pay8 v t)).trans ?_
  exact congrArg (fun s : Finset S32x2048.Idx => BitVec.ofNat 32 s.card) (Finset.filter_congr fun i _ => sgt_iff v t i)

/-- The kernel's count of the keys equal to `t`. -/
theorem count_ties (v : Vec Bits S32x2048 .f32) (t : BitVec 32) :
    extractAt ![0, 0, 0] (k0_pay11 v t) inpos_S1x1x1_p0_0_0 = BitVec.ofNat 32 (Finset.univ.filter fun i => key v i = t.toNat).card := by
  refine (count_eq (k0_pay9 v t)).trans ?_
  exact congrArg (fun s : Finset S32x2048.Idx => BitVec.ofNat 32 s.card) (Finset.filter_congr fun i _ => eq_iff v t i)

theorem andi_eq_one (x y : BitVec 1) : IntOp.andi x y = 1#1 ↔ x = 1#1 ∧ y = 1#1 := by
  revert x y; decide

theorem ori_eq_one (x y : BitVec 1) : IntOp.ori x y = 1#1 ↔ x = 1#1 ∨ y = 1#1 := by
  revert x y; decide

/-- The kernel's count of the keys equal to `t` at positions below `x`. -/
theorem count_tiesBelow (v : Vec Bits S32x2048 .f32) (t x : BitVec 32) (hx : x.toNat < 2 ^ 31) :
    extractAt ![0, 0, 0] (shapeCast S1x1x1 (multiReductionI .add [1, 2] S1 (shapeCast S1x32x2048 (extui 32 (andi (k0_pay9 v t) (cmpi .slt k0_pay12 (broadcast S32x2048 x))) natLt_1_32) shapeCasts_S32x2048_S1x32x2048) 0#32 reduces_S1x32x2048_S1 rfl) shapeCasts_S1_S1x1x1) inpos_S1x1x1_p0_0_0
      = BitVec.ofNat 32 (tiesBelow (key v) pos t.toNat x.toNat) := by
  rw [count_eq]
  refine congrArg (fun s : Finset S32x2048.Idx => BitVec.ofNat 32 s.card) (Finset.filter_congr fun i _ => ?_)
  exact (andi_eq_one _ _).trans (and_congr (eq_iff v t i) (slt_pos_iff x hx i))

/-! ## The first search -/

theorem hi_eq : ∀ k : Fin 16, Scalar.shli 1#32 (Scalar.subi 31#32 (Scalar.muli 2#32 (Scf.iv 0#32 1#32 k.val))) = BitVec.ofNat 32 (2 ^ (31 - 2 * k.val)) := by
  decide

theorem lo_eq : ∀ k : Fin 16, Scalar.shli 1#32 (Scalar.subi 30#32 (Scalar.muli 2#32 (Scf.iv 0#32 1#32 k.val))) = BitVec.ofNat 32 (2 ^ (30 - 2 * k.val)) := by
  decide

/-- At least 1310 keys reach `t`. -/
def Reached (v : Vec Bits S32x2048 .f32) (t : ℕ) : Prop := 1310 ≤ atLeast (key v) t

instance (v : Vec Bits S32x2048 .f32) : DecidablePred (Reached v) := fun t => inferInstanceAs (Decidable (1310 ≤ _))

theorem test_eq (v : Vec Bits S32x2048 .f32) (t : ℕ) :
    Scalar.cmpi .sge (BitVec.ofNat 32 (atLeast (key v) t)) 1310#32 = BitVec.ofBool (decide (Reached v t)) := by
  have h := atLeast_le v t
  exact WordCmp.cmpi_sge_ofNat (by omega) (by omega)

theorem step1_eq (v : Vec Bits S32x2048 .f32) (k : Fin k0_t1_loop.trips) (a : BitVec 32) (hi lo : BitVec 32)
    (hh : Scalar.shli 1#32 (Scalar.subi 31#32 (Scalar.muli 2#32 (Scf.iv 0#32 1#32 k))) = hi)
    (hl : Scalar.shli 1#32 (Scalar.subi 30#32 (Scalar.muli 2#32 (Scf.iv 0#32 1#32 k))) = lo) :
    step1 v k a = if Reached v (a ||| hi).toNat then (if Reached v (a ||| hi ||| lo).toNat then a ||| hi ||| lo else a ||| hi)
      else (if Reached v (a ||| lo).toNat then a ||| lo else a) := by
  have h5 : extractAt ![0, 0, 0] (k0_pay5 v k a) inpos_S1x1x1_p0_0_0 = BitVec.ofNat 32 (atLeast (key v) (a ||| hi).toNat) := by
    rw [← hh]; exact count_atLeast v _
  have h6 : extractAt ![0, 0, 0] (k0_pay6 v k a) inpos_S1x1x1_p0_0_0 = BitVec.ofNat 32 (atLeast (key v) (a ||| lo).toNat) := by
    rw [← hl]; exact count_atLeast v _
  have h7 : extractAt ![0, 0, 0] (k0_pay7 v k a) inpos_S1x1x1_p0_0_0 = BitVec.ofNat 32 (atLeast (key v) (a ||| hi ||| lo).toNat) := by
    rw [← hl, ← hh]; exact count_atLeast v _
  unfold step1
  rw [h5, h6, h7, test_eq, test_eq, test_eq, hh, hl]
  simp only [WordCmp.select_decide]
  rfl

theorem step1_bracket (v : Vec Bits S32x2048 .f32) (k : Fin k0_t1_loop.trips) (a : BitVec 32)
    (h : Bracket (Reached v) (2 ^ (32 - 2 * k.val)) a.toNat) :
    Bracket (Reached v) (2 ^ (32 - 2 * (k.val + 1))) (step1 v k a).toNat := by
  have hk : k.val < 16 := k.isLt
  have e1 : 2 ^ (31 - 2 * k.val) = 2 * 2 ^ (30 - 2 * k.val) := by
    rw [show 31 - 2 * k.val = (30 - 2 * k.val) + 1 by omega, Nat.pow_succ, Nat.mul_comm]
  have e0 : 2 ^ (32 - 2 * k.val) = 4 * 2 ^ (30 - 2 * k.val) := by
    rw [show 32 - 2 * k.val = (30 - 2 * k.val) + 2 by omega, Nat.pow_add, Nat.mul_comm]
  have d1 : 2 ^ (31 - 2 * k.val + 1) ∣ a.toNat := by rw [show 31 - 2 * k.val + 1 = 32 - 2 * k.val by omega]; exact h.dvd
  have d0 : 2 ^ (30 - 2 * k.val + 1) ∣ a.toNat := (Nat.pow_dvd_pow 2 (by omega)).trans d1
  have n1 := toNat_or_bit a _ (by omega) d1
  have n0 := toNat_or_bit a _ (by omega) d0
  have n2 := toNat_or_bit (a ||| BitVec.ofNat 32 (2 ^ (31 - 2 * k.val))) (30 - 2 * k.val) (by omega) (by
    rw [n1, show 30 - 2 * k.val + 1 = 31 - 2 * k.val by omega]
    exact Nat.dvd_add (by rwa [show 30 - 2 * k.val + 1 = 31 - 2 * k.val by omega] at d0) (Nat.dvd_refl _))
  rw [n1] at n2
  rw [e0] at h
  have hq := h.quarter
  rw [step1_eq v k a _ _ (hi_eq ⟨k.val, hk⟩) (lo_eq ⟨k.val, hk⟩), show 32 - 2 * (k.val + 1) = 30 - 2 * k.val by omega]
  rw [apply_ite BitVec.toNat, apply_ite BitVec.toNat, apply_ite BitVec.toNat, n2, n1, n0, e1]
  exact hq

theorem card_elements : Fintype.card S32x2048.Idx = 65536 := by
  rw [Shape.card_idx]; unfold Shape.numel; rw [Fin.prod_univ_two]; rfl

theorem reached_zero (v : Vec Bits S32x2048 .f32) : Reached v 0 := by
  unfold Reached atLeast
  rw [Finset.filter_true_of_mem fun i _ => Nat.zero_le _, Finset.card_univ, card_elements]
  omega

theorem not_reached_top (v : Vec Bits S32x2048 .f32) (n : ℕ) (hn : n = 2 ^ 32) : ¬ Reached v n := by
  unfold Reached atLeast
  rw [Finset.filter_false_of_mem fun i _ => ?_, Finset.card_empty]
  · omega
  · have := (totalOrderKey (v i : BitVec 32)).isLt
    unfold key; rw [hn]; exact Nat.not_le.2 this

/-- The threshold: the greatest key that 1310 keys reach. -/
theorem T1_bracket (v : Vec Bits S32x2048 .f32) : Bracket (Reached v) 1 (T1 v).toNat := by
  have h := foldl_finRange (fun n (a : BitVec 32) => Bracket (Reached v) (2 ^ (32 - 2 * n)) a.toNat) k0_t1_loop.trips (step1 v) 0#32
    ⟨⟨0, rfl⟩, reached_zero v, not_reached_top v _ (by decide)⟩
    (step1_bracket v)
  unfold T1
  rw [Scf.fold_eq]
  exact h

/-- How many ties are to be taken. -/
def want (v : Vec Bits S32x2048 .f32) : ℕ := 1310 - above (key v) (T1 v).toNat

theorem above_lt (v : Vec Bits S32x2048 .f32) : above (key v) (T1 v).toNat < 1310 := by
  have h := (T1_bracket v).no
  unfold Reached at h
  rw [above_eq]; omega

theorem want_le (v : Vec Bits S32x2048 .f32) : want v ≤ (Finset.univ.filter fun i => key v i = (T1 v).toNat).card := by
  have h : 1310 ≤ atLeast (key v) (T1 v).toNat := (T1_bracket v).yes
  rw [atLeast_eq] at h
  unfold want; omega

theorem wanted_eq (v : Vec Bits S32x2048 .f32) : wanted v = BitVec.ofNat 32 (want v) := by
  have h := above_lt v
  unfold wanted want
  rw [count_above]
  generalize above (key v) (T1 v).toNat = n at h ⊢
  show 1310#32 - BitVec.ofNat 32 n = _
  apply BitVec.eq_of_toNat_eq
  rw [BitVec.toNat_sub, BitVec.toNat_ofNat, BitVec.toNat_ofNat, BitVec.toNat_ofNat]
  omega

theorem ties_eq (v : Vec Bits S32x2048 .f32) : ties v = BitVec.ofNat 32 (Finset.univ.filter fun i => key v i = (T1 v).toNat).card :=
  count_ties v _

/-- Fewer ties than wanted lie below `x`. -/
def Short (v : Vec Bits S32x2048 .f32) (x : ℕ) : Prop := tiesBelow (key v) pos (T1 v).toNat x < want v

instance (v : Vec Bits S32x2048 .f32) : DecidablePred (Short v) := fun _ => inferInstanceAs (Decidable (_ < _))

theorem bit_eq : ∀ k : Fin 17, Scalar.shli 1#32 (Scalar.subi 16#32 (Scf.iv 0#32 1#32 k.val)) = BitVec.ofNat 32 (2 ^ (16 - k.val)) := by
  decide

theorem or_lt (a : BitVec 32) (j : ℕ) (hj : j < 17) (ha : a.toNat < 2 ^ 17) : (a ||| BitVec.ofNat 32 (2 ^ j)).toNat < 2 ^ 17 := by
  have hj' : 2 ^ j < 2 ^ 17 := Nat.pow_lt_pow_right (by omega) hj
  rw [BitVec.toNat_or, BitVec.toNat_ofNat, Nat.mod_eq_of_lt (by omega)]
  exact Nat.or_lt_two_pow ha hj'

theorem step2_eq (v : Vec Bits S32x2048 .f32) (k : Fin k0_t2_loop.trips) (a bit : BitVec 32)
    (hb : Scalar.shli 1#32 (Scalar.subi 16#32 (Scf.iv 0#32 1#32 k)) = bit) (hlt : (a ||| bit).toNat < 2 ^ 17) :
    step2 v (T1 v) (wanted v) k a = if Short v (a ||| bit).toNat then a ||| bit else a := by
  have h13 : extractAt ![0, 0, 0] (k0_pay13 v (T1 v) k a) inpos_S1x1x1_p0_0_0 = BitVec.ofNat 32 (tiesBelow (key v) pos (T1 v).toNat (a ||| bit).toNat) := by
    subst hb; exact count_tiesBelow v _ _ (by have : (Scalar.ori a (Scalar.shli 1#32 (Scalar.subi 16#32 (Scf.iv 0#32 1#32 k)))).toNat < 2 ^ 17 := hlt; omega)
  have hle : tiesBelow (key v) pos (T1 v).toNat (a ||| bit).toNat ≤ 65536 := card_filter_le _
  have hw : want v ≤ 1310 := Nat.sub_le _ _
  unfold step2
  rw [h13, wanted_eq, hb, WordCmp.scalar_cmpi_eq, WordCmp.cmpi_slt_ofNat (by omega) (by omega)]
  rw [WordCmp.select_decide]
  rfl

theorem step2_bracket (v : Vec Bits S32x2048 .f32) (k : Fin k0_t2_loop.trips) (a : BitVec 32)
    (h : Bracket (Short v) (2 ^ (17 - k.val)) a.toNat ∧ a.toNat < 2 ^ 17) :
    Bracket (Short v) (2 ^ (17 - (k.val + 1))) (step2 v (T1 v) (wanted v) k a).toNat ∧ (step2 v (T1 v) (wanted v) k a).toNat < 2 ^ 17 := by
  have hk : k.val < 17 := k.isLt
  obtain ⟨h, ha⟩ := h
  have hor := or_lt a (16 - k.val) (by omega) ha
  rw [step2_eq v k a _ (bit_eq ⟨k.val, hk⟩) hor, show 17 - (k.val + 1) = 16 - k.val by omega]
  refine ⟨?_, by split <;> assumption⟩
  have n1 := toNat_or_bit a (16 - k.val) (by omega) (by rw [show 16 - k.val + 1 = 17 - k.val by omega]; exact h.dvd)
  rw [show 17 - k.val = (16 - k.val) + 1 by omega, Nat.pow_succ, Nat.mul_comm] at h
  have hq := h.half
  rw [apply_ite BitVec.toNat, n1]
  exact hq

/-- Below the bound, all ties. -/
theorem tiesBelow_all (v : Vec Bits S32x2048 .f32) (t x : ℕ) (hx : 65536 ≤ x) :
    tiesBelow (key v) pos t x = (Finset.univ.filter fun i => key v i = t).card := by
  unfold tiesBelow
  refine congrArg Finset.card (Finset.filter_congr fun i _ => ⟨fun h => h.1, fun h => ⟨h, lt_of_lt_of_le (pos_lt i) hx⟩⟩)

theorem tiesBelow_none (v : Vec Bits S32x2048 .f32) (t : ℕ) : tiesBelow (key v) pos t 0 = 0 := by
  unfold tiesBelow
  rw [Finset.filter_false_of_mem fun i _ h => Nat.not_lt_zero _ h.2, Finset.card_empty]

theorem short_zero (v : Vec Bits S32x2048 .f32) : Short v 0 := by
  have h := above_lt v
  unfold Short want
  rw [tiesBelow_none]; omega

theorem not_short_top (v : Vec Bits S32x2048 .f32) (n : ℕ) (hn : 65536 ≤ n) : ¬ Short v n := by
  have h := want_le v
  unfold Short
  rw [tiesBelow_all v _ _ hn]; omega

/-- The second search ends at the position of the last tie taken. -/
theorem search2 (v : Vec Bits S32x2048 .f32) :
    Bracket (Short v) 1 (Scf.fold (step2 v (T1 v) (wanted v)) 0#32 : BitVec 32).toNat ∧ (Scf.fold (step2 v (T1 v) (wanted v)) 0#32 : BitVec 32).toNat < 2 ^ 17 := by
  have h := foldl_finRange (fun n (a : BitVec 32) => Bracket (Short v) (2 ^ (17 - n)) a.toNat ∧ a.toNat < 2 ^ 17) k0_t2_loop.trips (step2 v (T1 v) (wanted v)) 0#32
    ⟨⟨⟨0, rfl⟩, short_zero v, not_short_top v _ (by decide)⟩, by decide⟩ (step2_bracket v)
  rw [Scf.fold_eq]
  exact h

/-- Up to the last tie taken lie as many ties as wanted. -/
theorem lastTie_spec (v : Vec Bits S32x2048 .f32) :
    tiesBelow (key v) pos (T1 v).toNat ((lastTie v).toNat + 1) = want v ∧ (lastTie v).toNat ≤ 2 ^ 17 := by
  have hle : (Finset.univ.filter fun i => key v i = (T1 v).toNat).card ≤ 65536 := card_filter_le _
  have hw : want v ≤ 1310 := Nat.sub_le _ _
  have hc : (Scalar.cmpi .ne (Scalar.extui (Scalar.cmpi .eq (ties v) (wanted v)) : BitVec 32) 0#32 = 1#1) ↔ (Finset.univ.filter fun i => key v i = (T1 v).toNat).card = want v := by
    rw [ties_eq, wanted_eq, WordCmp.scalar_cmpi_eq .eq, WordCmp.cmpi_eq_ofNat (by omega) (by omega)]
    by_cases he : (Finset.univ.filter fun i => key v i = (T1 v).toNat).card = want v
    · rw [decide_eq_true he]; exact ⟨fun _ => he, fun _ => by decide⟩
    · rw [decide_eq_false he]; exact ⟨fun h => absurd h (by decide), fun h => absurd h he⟩
  unfold lastTie
  split
  · next h => exact ⟨(tiesBelow_all v _ _ (by decide)).trans (hc.1 h), by decide⟩
  · obtain ⟨hb, hlt⟩ := search2 v
    refine ⟨?_, le_of_lt hlt⟩
    have h1 : tiesBelow (key v) pos (T1 v).toNat _ < want v := hb.yes
    have h2 : ¬ tiesBelow (key v) pos (T1 v).toNat _ < want v := hb.no
    have h3 := tiesBelow_succ_le (key v) pos pos_injective (T1 v).toNat (Scf.fold (step2 v (T1 v) (wanted v)) 0#32 : BitVec 32).toNat
    omega

/-! ## The mask -/

/-- The elements the kernel selects. -/
def taken (v : Vec Bits S32x2048 .f32) : Finset S32x2048.Idx := cut (key v) pos (T1 v).toNat (lastTie v).toNat

/-- The kernel's mask marks them. -/
theorem mask_iff (v : Vec Bits S32x2048 .f32) (i : S32x2048.Idx) : mask v i = 1#1 ↔ i ∈ taken v := by
  have hl := (lastTie_spec v).2
  have h1 : (lastTie v + 1#32).toNat = (lastTie v).toNat + 1 := by
    rw [BitVec.toNat_add]; exact Nat.mod_eq_of_lt (by simp only [BitVec.toNat_ofNat]; omega)
  unfold taken cut
  rw [Finset.mem_filter]
  refine Iff.trans (b := (T1 v).toNat < key v i ∨ (key v i = (T1 v).toNat ∧ pos i < (lastTie v).toNat + 1)) ?_ ⟨fun h => ⟨Finset.mem_univ _, h⟩, fun h => h.2⟩
  refine (ori_eq_one _ _).trans (or_congr (sgt_iff v _ i) ((andi_eq_one _ _).trans (and_congr (eq_iff v _ i) ?_)))
  rw [← h1]
  exact slt_pos_iff (lastTie v + 1#32) (by omega) i

/-- There are 1310 of them. -/
theorem card_taken (v : Vec Bits S32x2048 .f32) : (taken v).card = 1310 := by
  have h := above_lt v
  unfold taken
  rw [card_cut, (lastTie_spec v).1]
  unfold want; omega

/-- They come before all others. -/
theorem taken_first (v : Vec Bits S32x2048 .f32) (i : S32x2048.Idx) (hi : i ∈ taken v) (j : S32x2048.Idx) (hj : j ∉ taken v) :
    Before (key v) pos i j := cut_first _ _ _ _ i hi j hj

end Cert.Kernel.Select

end
-- ==== Proof.TopK.lean ====
/-
  What the plain selection leaves, on words: at a position among the 1310 first of the stable descending sort, the
  element less the threshold, clipped at zero; zero elsewhere.
-/
module

public import proofs.«01_k».proof.Words
public import proofs.«01_k».proof.Proof.Gen.Words
public import proofs.«01_k».proof.Proof.Search
public import Idealize.ShloMosaic.Lib.SortFacts
public import Idealize.ShloMosaic.Lib.SortKey
public import Idealize.ShloMosaic.Lib.WordCmp
public import Idealize.ShloMosaic.Lib.PlanTiles.StableSort
public import Idealize.ShloMosaic.Lib.Routing.OpsSet

@[expose] public section

set_option maxRecDepth 16384

noncomputable section

namespace Cert.Words.TopK

open Cert.Words Cert.Words.Gen Cert.Search
open Idealize.ShloMosaic Idealize.ShloMosaic.TcCoe Idealize.ShloMosaic.ValueIdx

/-- The total-order key of an element. -/
def key (y : Vec Bits S65536 .f32) (i : Fin 65536) : ℕ := (totalOrderKey (y (ix1 i) : BitVec 32)).toNat

/-- The position from which the stable descending sort takes its element number `r`. -/
def from_ (y : Vec Bits S65536 .f32) (r : Fin 65536) : Fin 65536 :=
  sortedFrom (fun k k' => FloatOps.cmpfTotal (F := Bits) (φ := .f32) .gt (y (ix1 k)) (y (ix1 k')) == 1#1) r

theorem before_eq (y : Vec Bits S65536 .f32) :
    (fun k k' : Fin 65536 => FloatOps.cmpfTotal (F := Bits) (φ := .f32) .gt (y (ix1 k)) (y (ix1 k')) == 1#1)
      = fun k k' => decide (key y k' < key y k) := by
  funext k k'
  show (IntOp.cmpi .ugt (totalOrderKey (y (ix1 k) : BitVec 32)) (totalOrderKey (y (ix1 k') : BitVec 32)) == 1#1) = _
  rw [WordCmp.cmpi_ugt_eq]
  unfold key
  by_cases h : (totalOrderKey (y (ix1 k') : BitVec 32)).toNat < (totalOrderKey (y (ix1 k) : BitVec 32)).toNat
  · rw [decide_eq_true h]; rfl
  · rw [decide_eq_false h]; rfl

/-- An earlier place of a stable descending sort holds what comes before. -/
theorem sorted_before {n : ℕ} (G : Fin n → ℕ) (r r' : Fin n) (h : r < r') :
    Before G Fin.val (sortedFrom (fun k k' => decide (G k' < G k)) r) (sortedFrom (fun k k' => decide (G k' < G k)) r') := by
  have hp := PlanTiles.pairwise_stableSort_lex G (fun a b : Fin n => a < b) (List.finRange n) (List.pairwise_lt_finRange _)
  have h2 := List.pairwise_iff_get.1 hp (r.cast (length_sortPositions n _).symm) (r'.cast (length_sortPositions n _).symm) h
  rcases h2 with h3 | ⟨h3, h4⟩
  · exact Or.inl h3
  · exact Or.inr ⟨h3.symm, h4⟩

theorem from_before (y : Vec Bits S65536 .f32) (r r' : Fin 65536) (h : r < r') :
    Before (key y) Fin.val (from_ y r) (from_ y r') := by
  unfold from_
  rw [before_eq]
  exact sorted_before _ _ _ h

theorem from_injective (y : Vec Bits S65536 .f32) : Function.Injective (from_ y) := sortedFrom_injective _

theorem from_surjective (y : Vec Bits S65536 .f32) : Function.Surjective (from_ y) := sortedFrom_surjective _

/-- The place `r` among the first 1310. -/
def place (r : Fin 1310) : Fin 65536 := ⟨r.val, lt_of_lt_of_le r.isLt (by decide)⟩

/-- The positions of the first 1310. -/
def first (y : Vec Bits S65536 .f32) : Finset (Fin 65536) := Finset.univ.image fun r : Fin 1310 => from_ y (place r)

theorem mem_first (y : Vec Bits S65536 .f32) (i : Fin 65536) : i ∈ first y ↔ ∃ r : Fin 1310, from_ y (place r) = i := by
  unfold first
  rw [Finset.mem_image]
  exact ⟨fun ⟨r, _, h⟩ => ⟨r, h⟩, fun ⟨r, h⟩ => ⟨r, Finset.mem_univ _, h⟩⟩

theorem place_injective : Function.Injective place := fun a b h => Fin.ext (by simpa [place] using congrArg Fin.val h)

theorem card_first (y : Vec Bits S65536 .f32) : (first y).card = 1310 := by
  unfold first
  rw [Finset.card_image_of_injective Finset.univ (f := fun r : Fin 1310 => from_ y (place r))
    (fun a b h => place_injective (from_injective y h)), Finset.card_univ, Fintype.card_fin]

theorem first_first (y : Vec Bits S65536 .f32) (i : Fin 65536) (hi : i ∈ first y) (j : Fin 65536) (hj : j ∉ first y) :
    Before (key y) Fin.val i j := by
  obtain ⟨r, rfl⟩ := (mem_first y i).1 hi
  obtain ⟨r', rfl⟩ := from_surjective y j
  refine from_before y _ _ ?_
  by_contra hlt
  have hle : r'.val ≤ r.val := Nat.not_lt.1 hlt
  exact hj ((mem_first y _).2 ⟨⟨r'.val, lt_of_le_of_lt hle r.isLt⟩, rfl⟩)

/-! ## The two results of the top-k -/

theorem along_ix1 {n : ℕ} (a k : Fin n) : Shape.Idx.along (s := ⟨1, ![n]⟩) (ix1 a) (0 : Fin 1) k = ix1 k := by
  funext d
  match d with
  | ⟨0, _⟩ => exact Function.update_self (0 : Fin 1) _ _

theorem slice_at {α : Type} {n k : ℕ} (x : (⟨1, ![n]⟩ : Shape).Idx → α)
    (h : (⟨1, ![n]⟩ : Shape).Slices (fun _ => 0) ⟨1, ![k]⟩) (r : Fin k) (r' : Fin n) (hr : r'.val = r.val) :
    extractStridedSlice ⟨1, ![k]⟩ (fun _ => 0) x h (ix1 r) = x (ix1 r') := by
  refine congrArg x (funext fun d => ?_)
  match d with
  | ⟨0, _⟩ => exact Fin.ext ((Nat.zero_add _).trans hr.symm)

/-- Element `r` of both results of a top-k of a one-axis array: the element, and its position, from which the stable
descending sort takes its element `r`. -/
theorem topK_apply {α : Type} {n k : ℕ} (gt : α → α → BitVec 1) (x : (⟨1, ![n]⟩ : Shape).Idx → α)
    (h : (⟨1, ![n]⟩ : Shape).Slices (fun _ => 0) ⟨1, ![k]⟩) (r : Fin k) (r' : Fin n) (hr : r'.val = r.val) :
    (Host.topK ⟨1, ![k]⟩ 0 gt x h).1 (ix1 r) = x (ix1 (sortedFrom (fun a b => gt (x (ix1 a)) (x (ix1 b)) == 1#1) r'))
      ∧ (Host.topK ⟨1, ![k]⟩ 0 gt x h).2 (ix1 r)
        = BitVec.ofNat 32 (sortedFrom (fun a b => gt (x (ix1 a)) (x (ix1 b)) == 1#1) r').val := by
  have key : (fun a b : Fin n => gt (x (Shape.Idx.along (s := ⟨1, ![n]⟩) (ix1 r') (0 : Fin 1) a)) (x (Shape.Idx.along (s := ⟨1, ![n]⟩) (ix1 r') (0 : Fin 1) b)) == 1#1)
      = fun a b => gt (x (ix1 a)) (x (ix1 b)) == 1#1 := by
    funext a b
    rw [along_ix1, along_ix1]
  have hsort : ∀ i : (⟨1, ![n]⟩ : Shape).Idx → BitVec 32, Host.sort2 ⟨1, ![n]⟩ 0 (fun l r => gt l.1 r.1) x i
      = (fun j => x (Shape.Idx.along (s := ⟨1, ![n]⟩) j (0 : Fin 1) (sortedFrom (fun a b : Fin n => gt (x (Shape.Idx.along (s := ⟨1, ![n]⟩) j (0 : Fin 1) a)) (x (Shape.Idx.along (s := ⟨1, ![n]⟩) j (0 : Fin 1) b)) == 1#1) (j 0))),
        fun j => i (Shape.Idx.along (s := ⟨1, ![n]⟩) j (0 : Fin 1) (sortedFrom (fun a b : Fin n => gt (x (Shape.Idx.along (s := ⟨1, ![n]⟩) j (0 : Fin 1) a)) (x (Shape.Idx.along (s := ⟨1, ![n]⟩) j (0 : Fin 1) b)) == 1#1) (j 0)))) := by
    intro i
    unfold Host.sort2
    exact dif_pos (show 0 < (⟨1, ![n]⟩ : Shape).rank from Nat.one_pos)
  unfold Host.topK
  dsimp only
  rw [hsort]
  dsimp only
  constructor
  · rw [slice_at _ h r r' hr]
    show x (Shape.Idx.along (s := ⟨1, ![n]⟩) (ix1 r') (0 : Fin 1) (sortedFrom (fun a b : Fin n => gt (x (Shape.Idx.along (s := ⟨1, ![n]⟩) (ix1 r') (0 : Fin 1) a)) (x (Shape.Idx.along (s := ⟨1, ![n]⟩) (ix1 r') (0 : Fin 1) b)) == 1#1) r')) = _
    rw [key]
    exact congrArg x (along_ix1 r' _)
  · rw [slice_at _ h r r' hr]
    show BitVec.ofNat 32 (Shape.Idx.along (s := ⟨1, ![n]⟩) (ix1 r') (0 : Fin 1) (sortedFrom (fun a b : Fin n => gt (x (Shape.Idx.along (s := ⟨1, ![n]⟩) (ix1 r') (0 : Fin 1) a)) (x (Shape.Idx.along (s := ⟨1, ![n]⟩) (ix1 r') (0 : Fin 1) b)) == 1#1) r') (0 : Fin 1)).val = _
    rw [key]
    exact congrArg (fun j : (⟨1, ![n]⟩ : Shape).Idx => BitVec.ofNat 32 (j (0 : Fin 1)).val) (along_ix1 r' _)

theorem values_apply (y : Vec Bits S65536 .f32) (r : Fin 1310) :
    (Host.topK S1310 0 (FloatOps.cmpfTotal (F := Bits) (φ := .f32) .gt) y sliceFits_S65536_S1310).1 (ix1 r) = y (ix1 (from_ y (place r))) :=
  (topK_apply _ y sliceFits_S65536_S1310 r (place r) rfl).1

theorem indices_apply (y : Vec Bits S65536 .f32) (r : Fin 1310) :
    (Host.topK S1310 0 (FloatOps.cmpfTotal (F := Bits) (φ := .f32) .gt) y sliceFits_S65536_S1310).2 (ix1 r) = BitVec.ofNat 32 (from_ y (place r)).val :=
  (topK_apply _ y sliceFits_S65536_S1310 r (place r) rfl).2

/-! ## The scatter -/

/-- Update `r` lands at `i` exactly when its index word is `i`. -/
theorem lands (idx : IVec S1310x1 32) (r : Fin 1310) (i : Fin 65536) :
    scatter_S65536_S1310x1_S1310_n_0_0_1.resultIdx? (ix1 r) idx = some (ix1 i) ↔ (idx (ix2 r (0 : Fin 1))).toInt = (i.val : ℤ) := by
  rw [Routing.resultIdx?_ix1]
  have hw : scatter_S65536_S1310x1_S1310_n_0_0_1.window (ix1 r) 0 = 0 := rfl
  have hs : scatter_S65536_S1310x1_S1310_n_0_0_1.start (ix1 r) idx 0 = (idx (ix2 r (0 : Fin 1))).toInt := by
    unfold ScatterDims.start
    rw [dif_pos (show (0 : Fin 1) ∈ scatter_S65536_S1310x1_S1310_n_0_0_1.scatterDimsToOperandDims from List.mem_singleton.2 rfl)]
    refine congrArg (fun j => (idx j).toInt) (funext fun a => ?_)
    match a with
    | ⟨0, _⟩ => rfl
    | ⟨1, _⟩ => rfl
  rw [hw, hs]
  omega

/-- A word below the sign bit, as an index, is not negative and is read back. -/
theorem word_apply (w m : BitVec 32) (n p : ℕ) (hn : n = 2 ^ 31) (hp : p < n) (hw : w = BitVec.ofNat 32 p) :
    (Scalar.select (IntOp.cmpi .slt w 0#32) (IntOp.addi w m) w).toInt = (p : ℤ) := by
  have ht : w.toNat = p := by
    rw [hw, BitVec.toNat_ofNat]
    exact Nat.mod_eq_of_lt (by omega)
  have hi : w.toInt = (p : ℤ) := by
    rw [BitVec.toInt_eq_toNat_of_lt (by omega), ht]
  have hneg : IntOp.cmpi .slt w 0#32 = 0#1 := by
    have : w.slt 0#32 = false := by
      rw [BitVec.slt_eq_decide, hi]
      exact decide_eq_false (by rw [BitVec.toInt_zero]; omega)
    show BitVec.ofBool (w.slt 0#32) = 0#1
    rw [this]; rfl
  rw [hneg]
  exact hi

/-- The array of positions the scatter reads: the top-k's indices, wrapped where negative. -/
def positions (y : Vec Bits S65536 .f32) : IVec S1310x1 32 :=
  broadcastInDim S1310x1 ![0] bcast_S1310_S1310x1_0
    (select (cmpi .slt (Host.topK S1310 0 (FloatOps.cmpfTotal (F := Bits) (φ := .f32) .gt) y sliceFits_S65536_S1310).2
        (broadcastInDim S1310 ![] bcast_S_S1310 (constantI S_ 32 0#32)))
      (addi (Host.topK S1310 0 (FloatOps.cmpfTotal (F := Bits) (φ := .f32) .gt) y sliceFits_S65536_S1310).2
        (broadcastInDim S1310 ![] bcast_S_S1310 (constantI S_ 32 65536#32)))
      (Host.topK S1310 0 (FloatOps.cmpfTotal (F := Bits) (φ := .f32) .gt) y sliceFits_S65536_S1310).2)

/-- The selected array: the scatter of the clipped differences over the zeros. -/
def selected (y : Vec Bits S65536 .f32) (θ : Vec Bits S_ .f32) : Vec Bits S65536 .f32 :=
  Host.scatter scatter_S65536_S1310x1_S1310_n_0_0_1 (fun _ b => b)
    (broadcastInDim S65536 ![] bcast_S_S65536 (constant (F := Bits) S_ .f32 0x00000000#32)) (positions y)
    (maximumf (subf (Host.topK S1310 0 (FloatOps.cmpfTotal (F := Bits) (φ := .f32) .gt) y sliceFits_S65536_S1310).1
        (broadcastInDim S1310 ![] bcast_S_S1310 θ))
      (broadcastInDim S1310 ![] bcast_S_S1310 (constant (F := Bits) S_ .f32 0x00000000#32)))

theorem spread_apply {α : Type} (x : S_.Idx → α) (j : S1310.Idx) : broadcastInDim S1310 ![] bcast_S_S1310 x j = x ix0 :=
  congrArg x (funext fun a => a.elim0)

theorem column_apply {α : Type} (x : S1310.Idx → α) (r : Fin 1310) :
    broadcastInDim S1310x1 ![0] bcast_S1310_S1310x1_0 x (ix2 r (0 : Fin 1)) = x (ix1 r) := by
  refine congrArg x (funext fun a => ?_)
  match a with
  | ⟨0, _⟩ => exact dif_neg (show ¬ (1310 : ℕ) = 1 by omega)

/-- The index array as scattered by: element `r` reads back as the position of the sorted element `r`. -/
theorem positions_apply (y : Vec Bits S65536 .f32) (r : Fin 1310) :
    (positions y (ix2 r (0 : Fin 1))).toInt = ((from_ y (place r)).val : ℤ) := by
  have h := indices_apply y r
  have hp : (from_ y (place r)).val < 65536 := (from_ y (place r)).isLt
  generalize (from_ y (place r)).val = p at h hp ⊢
  unfold positions
  rw [column_apply]
  generalize (Host.topK S1310 0 (FloatOps.cmpfTotal (F := Bits) (φ := .f32) .gt) y sliceFits_S65536_S1310).2 = w at h ⊢
  exact word_apply (w (ix1 r)) 65536#32 2147483648 p (by norm_num) (by omega) h

theorem lands_at (y : Vec Bits S65536 .f32) (k : S1310.Idx) (i : Fin 65536) :
    scatter_S65536_S1310x1_S1310_n_0_0_1.resultIdx? k (positions y) = some (ix1 i) ↔ from_ y (place (k 0)) = i := by
  obtain ⟨r, rfl⟩ : ∃ r : Fin 1310, k = ix1 r := ⟨k 0, eq_ix1 k⟩
  rw [lands, positions_apply]
  exact ⟨fun h => Fin.ext (Int.ofNat.inj h), fun h => congrArg (fun f : Fin 65536 => (f.val : ℤ)) h⟩

theorem selected_apply (y : Vec Bits S65536 .f32) (θ : Vec Bits S_ .f32) (i : Fin 65536) :
    selected y θ (ix1 i) = if i ∈ first y then FloatOps.maximumf (φ := .f32) (FloatOps.subf (φ := .f32) (y (ix1 i)) (θ ix0)) (FloatOps.ofBits .f32 0)
      else (FloatOps.ofBits (F := Bits) .f32 0) := by
  unfold selected
  by_cases hi : i ∈ first y
  · rw [if_pos hi]
    obtain ⟨r, hr⟩ := (mem_first y i).1 hi
    refine Routing.scatter_set_hit _ _ _ _ _ _ ?_ (ix1 r) ((lands_at y _ i).2 hr)
    intro k hk
    have hk' := (lands_at y k i).1 hk
    obtain ⟨r', rfl⟩ : ∃ r' : Fin 1310, k = ix1 r' := ⟨k 0, eq_ix1 k⟩
    have hv := values_apply y r'
    rw [show from_ y (place r') = i from hk'] at hv
    rw [← hv, ← spread_apply θ (ix1 r')]
    rfl
  · rw [if_neg hi]
    refine (Routing.scatter_set_miss _ _ _ _ _ ?_).trans rfl
    intro k hk
    exact hi ((mem_first y i).2 ⟨k 0, (lands_at y k i).1 hk⟩)

end Cert.Words.TopK

end
-- ==== Proof.Link.lean ====
/-
  The kernel's selection against the plain one, on words: the elements the kernel's mask marks are the elements at the
  positions of the 1310 first of the stable descending sort, so the two leave the same array. And the kernel's array of
  products, row by row, is the blocked product's.
-/
module

public import proofs.«01_k».proof.Proof.Run
public import proofs.«01_k».proof.Proof.Gen.Words.Run
public import proofs.«01_k».proof.Proof.Select
public import proofs.«01_k».proof.Proof.TopK
public import proofs.«01_k».proof.Proof.Product

@[expose] public section

set_option maxRecDepth 16384

noncomputable section

namespace Cert.Link

open Cert.Kernel.Gen Cert.Search
open Idealize.ShloMosaic Idealize.ShloMosaic.TcCoe

/-! ## The selection -/

/-- The place in the array of products of the result's element `i`. -/
def re (i : Fin 65536) : Cert.Kernel.S32x2048.Idx :=
  Shape.reshapeEquiv (s := Cert.Kernel.S32x2048) (s' := Cert.Kernel.S65536) Cert.Kernel.Gen.shapeCasts_S32x2048_S65536 (ValueIdx.ix1 i)

theorem pos_re (i : Fin 65536) : Cert.Kernel.Select.pos (re i) = i.val := by
  unfold Cert.Kernel.Select.pos
  have h := Shape.rowMajor_reshapeEquiv (s := Cert.Kernel.S32x2048) (s' := Cert.Kernel.S65536) Cert.Kernel.Gen.shapeCasts_S32x2048_S65536 (ValueIdx.ix1 i)
  rw [Shape.rowMajor_val_one, Shape.rowMajor_val_two] at h
  exact h

theorem re_injective : Function.Injective re := fun i j h => Fin.ext (by rw [← pos_re i, h, pos_re j])

theorem re_surjective (j : Cert.Kernel.S32x2048.Idx) : ∃ i, re i = j :=
  ⟨⟨Cert.Kernel.Select.pos j, Cert.Kernel.Select.pos_lt j⟩, Cert.Kernel.Select.pos_injective (pos_re _)⟩

variable (v : Vec Bits Cert.Kernel.S32x2048 .f32) (y : Vec Bits Cert.Words.S65536 .f32)

/-- The elements the kernel marks are those the sort puts first. -/
theorem taken_eq (hv : ∀ i : Fin 65536, y (ValueIdx.ix1 i) = v (re i)) :
    Cert.Kernel.Select.taken v = (Cert.Words.TopK.first y).image re := by
  have hkey : ∀ i : Fin 65536, Cert.Kernel.Select.key v (re i) = Cert.Words.TopK.key y i := by
    intro i
    unfold Cert.Kernel.Select.key Cert.Words.TopK.key
    rw [hv i]
  refine eq_of_first (Before (Cert.Kernel.Select.key v) Cert.Kernel.Select.pos) (Before.asymm _ _) _ _ ?_ ?_ ?_
  · rw [Cert.Kernel.Select.card_taken, Finset.card_image_of_injective _ re_injective, Cert.Words.TopK.card_first]
  · exact fun i hi j hj => Cert.Kernel.Select.taken_first v i hi j hj
  · intro i hi j hj
    obtain ⟨i', hi', rfl⟩ := Finset.mem_image.1 hi
    obtain ⟨j', rfl⟩ := re_surjective j
    have h := Cert.Words.TopK.first_first y i' hi' j' fun h => hj (Finset.mem_image.2 ⟨j', h, rfl⟩)
    unfold Before at h ⊢
    rw [hkey, hkey, pos_re, pos_re]
    exact h

theorem mem_taken (hv : ∀ i : Fin 65536, y (ValueIdx.ix1 i) = v (re i)) (i : Fin 65536) :
    re i ∈ Cert.Kernel.Select.taken v ↔ i ∈ Cert.Words.TopK.first y := by
  rw [taken_eq v y hv, Finset.mem_image]
  exact ⟨fun ⟨a, ha, e⟩ => re_injective e ▸ ha, fun h => ⟨i, h, rfl⟩⟩

/-- An element of the kernel's result. -/
theorem result_apply (θ : Elt Bits .f32) (j : Cert.Kernel.S32x2048.Idx) :
    Cert.Kernel.Part.result v θ j = if j ∈ Cert.Kernel.Select.taken v
      then FloatOps.maximumf (φ := .f32) (FloatOps.subf (φ := .f32) (v j) θ) (FloatOps.ofBits .f32 0) else (FloatOps.ofBits (F := Bits) .f32 0) := by
  have h3 : k0_pay3 v = v := shapeCast_id _ _
  unfold Cert.Kernel.Part.result
  rw [h3]
  have hm := Cert.Kernel.Select.mask_iff v j
  generalize Cert.Kernel.Part.mask v = M at hm ⊢
  show Scalar.select (M j) (FloatOps.maximumf (φ := .f32) (FloatOps.subf (φ := .f32) (v j) θ) (FloatOps.ofBits .f32 0)) (FloatOps.ofBits (F := Bits) .f32 0) = _
  by_cases h : j ∈ Cert.Kernel.Select.taken v
  · rw [if_pos h, hm.2 h]; rfl
  · rw [if_neg h, (BitVec.eq_zero_or_eq_one (M j)).resolve_right (fun e => h (hm.1 e))]; rfl

/-- The two results are one array. -/
theorem selected_eq (hv : ∀ i : Fin 65536, y (ValueIdx.ix1 i) = v (re i)) (θ : Elt Bits .f32) (θ' : Vec Bits Cert.Words.S_ .f32) (hθ : θ' ValueIdx.ix0 = θ) :
    (shapeCast Cert.Kernel.S65536 (Cert.Kernel.Part.result v θ) Cert.Kernel.Gen.shapeCasts_S32x2048_S65536 : Vec Bits Cert.Kernel.S65536 .f32)
      = Cert.Words.TopK.selected y θ' := by
  funext j
  obtain ⟨i, rfl⟩ : ∃ i : Fin 65536, j = ValueIdx.ix1 i := ⟨j 0, ValueIdx.eq_ix1 j⟩
  refine (result_apply v θ (re i)).trans ((Cert.Words.TopK.selected_apply y θ' i).trans ?_).symm
  rw [hv i, hθ]
  exact if_congr (mem_taken v y hv i).symm rfl rfl

/-! ## The products -/

section
variable {F : FTy → Type} [BitOps F] [∀ e, Nonempty (Elt F e)]
variable (m : (ℓ : Loc Cert.Kernel.nD Cert.Kernel.τ Cert.Kernel.sig) → Buf (Elt F) ℓ) (c : Dev Cert.Kernel.nD)

theorem iblk_0 (t : Fin Cert.Kernel.cfg0.N) : (show Vec F Cert.Kernel.S1x1024 .f32 from iblk m c 0 t)
    = (shapeCast Cert.Kernel.S1x1024 (show Vec F Cert.Kernel.S1024 .f32 from m ((c : Thread Cert.Kernel.nD Cert.Kernel.τ).loc Cert.Kernel.main_arg0)) shapeCasts_S1024_S1x1024 : Vec F Cert.Kernel.S1x1024 .f32) := by
  rw [← Cert.Kernel.Run.V_call0_v0]
  unfold iblk; funext j
  refine congrArg (V m c Cert.Kernel.main_call0_v0) (funext fun a => Fin.ext ?_)
  exact Pipeline.Window.rect_emb_val_of_index_zero Cert.Kernel.win0_0 t a (by revert t a; decide +kernel) j

theorem iblk_3 (t : Fin Cert.Kernel.cfg0.N) : (show Vec F Cert.Kernel.S1 .f32 from iblk m c 3 t)
    = (shapeCast Cert.Kernel.S1 (show Vec F Cert.Kernel.S_ .f32 from m ((c : Thread Cert.Kernel.nD Cert.Kernel.τ).loc Cert.Kernel.main_arg3)) shapeCasts_S_S1 : Vec F Cert.Kernel.S1 .f32) := by
  rw [← Cert.Kernel.Run.V_call0_v1]
  unfold iblk; funext j
  refine congrArg (V m c Cert.Kernel.main_call0_v1) (funext fun a => Fin.ext ?_)
  exact Pipeline.Window.rect_emb_val_of_index_zero Cert.Kernel.win0_3 t a (by revert t a; decide +kernel) j

theorem iblk_1 (b : Fin 32) : (show Vec F Cert.Kernel.S2048x1024 .f32 from iblk m c 1 (Cert.Kernel.Run.pointOf b))
    = View.ld (show Vec F Cert.Words.S65536x1024 .f32 from m ((c : Thread Cert.Kernel.nD Cert.Kernel.τ).loc Cert.Kernel.main_arg2)) (Cert.Words.Product.blockRect b) := by
  funext j
  refine Eq.trans ?_ (congrFun (Cert.Kernel.Gen.V_main_arg2 m c) _)
  unfold iblk
  refine congrArg (V m c Cert.Kernel.main_arg2) (funext fun a => Fin.ext ?_)
  refine (Pipeline.Window.rect_emb_val Cert.Kernel.win0_1 _ j a).trans ((ValueKit.rect_emb_unit_val (s := Cert.Words.S65536x1024) _ _ _ j a).trans ?_).symm
  refine congrArg (· + (j a).val) ?_
  revert a b
  decide +kernel

theorem iblk_2 (b : Fin 32) : (show Vec F Cert.Kernel.S2048x1024 .f32 from iblk m c 2 (Cert.Kernel.Run.pointOf b))
    = View.ld (show Vec F Cert.Words.S65536x1024 .f32 from m ((c : Thread Cert.Kernel.nD Cert.Kernel.τ).loc Cert.Kernel.main_arg1)) (Cert.Words.Product.blockRect b) := by
  funext j
  refine Eq.trans ?_ (congrFun (Cert.Kernel.Gen.V_main_arg1 m c) _)
  unfold iblk
  refine congrArg (V m c Cert.Kernel.main_arg1) (funext fun a => Fin.ext ?_)
  refine (Pipeline.Window.rect_emb_val Cert.Kernel.win0_2 _ j a).trans ((ValueKit.rect_emb_unit_val (s := Cert.Words.S65536x1024) _ _ _ j a).trans ?_).symm
  refine congrArg (· + (j a).val) ?_
  revert a b
  decide +kernel

/-- Row `b` of the kernel's array of products is block `b` of the blocked product. -/
theorem products_apply (j : Cert.Kernel.S32x2048.Idx) : Cert.Kernel.Run.products m c j
    = Cert.Words.Product.block (F := F) (shapeCast Cert.Words.S1x1024 (show Vec F Cert.Words.S1024 .f32 from m ((c : Thread Cert.Kernel.nD Cert.Kernel.τ).loc Cert.Kernel.main_arg0)) Cert.Words.Gen.shapeCasts_S1024_S1x1024)
        (m ((c : Thread Cert.Kernel.nD Cert.Kernel.τ).loc Cert.Kernel.main_arg1)) (m ((c : Thread Cert.Kernel.nD Cert.Kernel.τ).loc Cert.Kernel.main_arg2)) (j 0) (Cert.Kernel.Run.inRow (j 1)) := by
  unfold Cert.Kernel.Run.products
  rw [show (iblk m c 0 (Cert.Kernel.Run.pointOf (j 0)) : Vec F Cert.Kernel.S1x1024 .f32) = _ from iblk_0 m c _,
    show (iblk m c 1 (Cert.Kernel.Run.pointOf (j 0)) : Vec F Cert.Kernel.S2048x1024 .f32) = _ from iblk_1 m c _,
    show (iblk m c 2 (Cert.Kernel.Run.pointOf (j 0)) : Vec F Cert.Kernel.S2048x1024 .f32) = _ from iblk_2 m c _]
  rfl

theorem thr_eq : Cert.Kernel.Run.thr m c = (show Vec F Cert.Kernel.S_ .f32 from m ((c : Thread Cert.Kernel.nD Cert.Kernel.τ).loc Cert.Kernel.main_arg3)) ValueIdx.ix0 := by
  unfold Cert.Kernel.Run.thr
  rw [show (iblk m c 3 (Cert.Kernel.Run.pointOf 31) : Vec F Cert.Kernel.S1 .f32) = _ from iblk_3 m c _]
  exact congrArg (show Vec F Cert.Kernel.S_ .f32 from m ((c : Thread Cert.Kernel.nD Cert.Kernel.τ).loc Cert.Kernel.main_arg3)) (funext fun a => a.elim0)

end

/-! ## The two programs' results -/

/-- In one row, the row-major position is the column. -/
theorem column_of_rowMajor {n : ℕ} (J : (⟨2, ![1, n]⟩ : Shape).Idx) (k d : ℕ) (h : (J 0).val * d + (J 1).val = k) : (J 1).val = k := by
  have hz : (J 0).val < 1 := (J 0).isLt
  rw [Nat.lt_one_iff.1 hz, Nat.zero_mul, Nat.zero_add] at h
  exact h

/-- The blocked product's array, as one axis, holds at `i` the kernel's product at the place of `i`, when the arguments agree. -/
theorem product_re (m : (ℓ : Loc Cert.Kernel.nD Cert.Kernel.τ Cert.Kernel.sig) → Buf (Elt Bits) ℓ)
    (m' : (ℓ : Loc Cert.Words.nD Cert.Words.τ Cert.Words.sig) → Buf (Elt Bits) ℓ) (c : Dev Cert.Kernel.nD)
    (h0 : m' ((c.tc : Thread Cert.Words.nD Cert.Words.τ).loc Cert.Words.main_arg0) = m ((c.tc : Thread Cert.Kernel.nD Cert.Kernel.τ).loc Cert.Kernel.main_arg0))
    (h1 : m' ((c.tc : Thread Cert.Words.nD Cert.Words.τ).loc Cert.Words.main_arg1) = m ((c.tc : Thread Cert.Kernel.nD Cert.Kernel.τ).loc Cert.Kernel.main_arg1))
    (h2 : m' ((c.tc : Thread Cert.Words.nD Cert.Words.τ).loc Cert.Words.main_arg2) = m ((c.tc : Thread Cert.Kernel.nD Cert.Kernel.τ).loc Cert.Kernel.main_arg2))
    (i : Fin 65536) :
    (shapeCast Cert.Words.S65536 (show Vec Bits Cert.Words.S1x65536 .f32 from Cert.Words.Value.reg_main_v1 m' c) Cert.Words.Gen.shapeCasts_S1x65536_S65536 : Vec Bits Cert.Words.S65536 .f32) (ValueIdx.ix1 i)
      = Cert.Kernel.Run.products m c (re i) := by
  have hpos := pos_re i
  unfold Cert.Kernel.Select.pos at hpos
  have hrow := Shape.rowMajor_reshapeEquiv (s := Cert.Words.S1x65536) (s' := Cert.Words.S65536) Cert.Words.Gen.shapeCasts_S1x65536_S65536 (ValueIdx.ix1 i)
  rw [Shape.rowMajor_val_one, Shape.rowMajor_val_two] at hrow
  have hi := column_of_rowMajor _ _ _ hrow
  refine (Cert.Words.Product.reg_apply m' c _ (re i 0) (Cert.Kernel.Run.inRow (re i 1)) ?_).trans ?_
  · refine hi.trans (Eq.trans (show _ = i.val from rfl) (hpos.symm.trans ?_))
    exact congrArg (· + (re i 1).val) (Nat.mul_comm _ _)
  · rw [h0, h1, h2]
    exact (products_apply m c (re i)).symm

end Cert.Link

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.Words
public import proofs.«01_k».proof.Proof.Gen.Words.Skeleton
public import proofs.«01_k».proof.Proof.Gen.Words.Launch
public import proofs.«01_k».proof.Proof.Gen.Words.Points
public import proofs.«01_k».proof.Proof.Gen.Words.Frame
public import proofs.«01_k».proof.Proof.Gen.WordsIdeal
public import proofs.«01_k».proof.Proof.Gen.WordsIdeal.Skeleton
public import proofs.«01_k».proof.Proof.Gen.WordsIdeal.Launch
public import proofs.«01_k».proof.Proof.Gen.WordsIdeal.Points
public import proofs.«01_k».proof.Proof.Gen.WordsIdeal.Frame
public import proofs.«01_k».proof.Proof.Gen.ReferenceIdeal
public import proofs.«01_k».proof.Proof.Gen.ReferenceIdeal.Run
public import proofs.«01_k».proof.Proof.Gen.Words.Run
public import proofs.«01_k».proof.Proof.Gen.WordsIdeal.Run
public import proofs.«01_k».proof.Proof.Run
public import proofs.«01_k».proof.Proof.Algebra
public import proofs.«01_k».proof.Proof.Link
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem Cert.Kernel

theorem quiescent_Kernel : Cert.quiescent_Kernel := fun m g _ =>
  (θ_run _ _ _).mono (fun r h => ⟨fun c => (h.1 c).2, h.2⟩) (Cert.Kernel.Run.run m g)

theorem quiescent_Words : Cert.quiescent_Words := fun m g _ => Cert.Words.Gen.frame m g

theorem quiescent_WordsIdeal : Cert.quiescent_WordsIdeal := fun m g _ => Cert.WordsIdeal.Gen.frame m g

theorem quiescent_ReferenceIdeal : Cert.quiescent_ReferenceIdeal := fun m g _ =>
  (θ_run _ _ _).mono (fun r h => ⟨fun c => (h c).2, sem_eq_zero_of_no_sems (by decide) r.2⟩) (Cert.ReferenceIdeal.Value.run m g)

theorem algebraic : Cert.algebraic_WordsIdeal_ReferenceIdeal := by
  intro m g m' g' _ hagree
  refine ⟨_, (θ_run _ _ _).mono (fun r h => h) (Cert.WordsIdeal.Value.run m g), ?_⟩
  refine (θ_run _ _ _).mono (fun r h c => ⟨(h c).1.trans ?_, (h c).2⟩) (Cert.ReferenceIdeal.Value.run m' g')
  obtain ⟨h0, h1, h2, h3⟩ := hagree c
  rw [h0, h1, h2, h3]
  rw [← Cert.WordsIdeal.Product.product_eq m c _ rfl _ _ rfl rfl]
  rfl

theorem bitexact : Cert.bitexact_Kernel_Words := by
  intro m g m' g' _ hagree
  refine ⟨_, (θ_run _ _ _).mono (fun r h => h.1) (Cert.Kernel.Run.run m g), ?_⟩
  refine (θ_run _ _ _).mono (fun r h c => ⟨(h c).1.trans ?_, (h c).2⟩) (Cert.Words.Value.run m' g')
  obtain ⟨h0, h1, h2, h3⟩ := hagree c
  refine Eq.trans ?_ (Cert.Link.selected_eq (Cert.Kernel.Run.products m c) _ (Cert.Link.product_re m m' c h0 h1 h2)
    (Cert.Kernel.Run.thr m c) (m' ((c.tc : Thread Cert.Words.nD Cert.Words.τ).loc Cert.Words.main_arg3)) ?_).symm
  · rfl
  · rw [h3]
    exact (Cert.Link.thr_eq m c).symm

theorem claim : Cert.Claim := ⟨Cert.Kernel.Gen.facts, Cert.Words.Gen.facts, Cert.WordsIdeal.Gen.facts, Cert.ReferenceIdeal.Gen.facts,
  quiescent_Kernel, quiescent_Words, quiescent_WordsIdeal, quiescent_ReferenceIdeal, bitexact, trivial, algebraic⟩

end Cert.Proof

end
